-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x10000x216 : Shape := ⟨3, ![8, 10000, 216]⟩
abbrev S8x10000x12 : Shape := ⟨3, ![8, 10000, 12]⟩
abbrev S12x12 : Shape := ⟨2, ![12, 12]⟩
abbrev S1x12x3 : Shape := ⟨3, ![1, 12, 3]⟩
abbrev S1 : Shape := ⟨1, ![1]⟩
abbrev S12x12x12 : Shape := ⟨3, ![12, 12, 12]⟩
abbrev S12 : Shape := ⟨1, ![12]⟩
abbrev S10000x12 : Shape := ⟨2, ![10000, 12]⟩
abbrev S_ : Shape := ⟨0, ![]⟩

class Facts : Prop where
  bcast_S_S8x10000x216 : S_.BroadcastsInDim S8x10000x216 (![] : Fin 0 → Fin S8x10000x216.rank)
  reducesTo_S8x10000x216_S_d0_1_2 : S8x10000x216.ReducesTo [0, 1, 2] S_
  h_S_ : 0 < S_.numel
  bcast_S_S1x12x3 : S_.BroadcastsInDim S1x12x3 (![] : Fin 0 → Fin S1x12x3.rank)
  reducesTo_S1x12x3_S_d0_1_2 : S1x12x3.ReducesTo [0, 1, 2] S_
  bcast_S_S1 : S_.BroadcastsInDim S1 (![] : Fin 0 → Fin S1.rank)
  reducesTo_S1_S_d0 : S1.ReducesTo [0] S_
  bcast_S_S12x12x12 : S_.BroadcastsInDim S12x12x12 (![] : Fin 0 → Fin S12x12x12.rank)
  reducesTo_S12x12x12_S_d0_1_2 : S12x12x12.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x10000x216 .f32) (main_arg1 : FVec F S8x10000x12 .f32) (main_arg2 : FVec F S12x12 .f32) (main_arg3 : FVec F S12x12 .f32) (main_arg4 : FVec F S1x12x3 .f32) (main_arg5 : FVec F S1 .f32) (main_arg6 : FVec F S12x12x12 .f32) (main_arg7 : FVec F S12 .f32) (main_arg8 : FVec F S12x12 .f32) (main_arg9 : FVec F S10000x12 .f32) : IVec S_ 1 :=
  let main_v0 : FVec F S8x10000x216 .f32 := Host.absf main_arg0
  let main_cst : FVec F S_ .f32 := constant S_ .f32 0x7F800000#32
  let main_v1 : FVec F S8x10000x216 .f32 := broadcastInDim S8x10000x216 ![] bcast_S_S8x10000x216 main_cst
  let main_v2 : IVec S8x10000x216 1 := cmpf .olt main_v0 main_v1
  let main_c : IVec S_ 1 := constantI S_ 1 1#1
  let main_v3 : IVec S_ 1 := (fun x v => Host.reduce IntOp.andi x v reducesTo_S8x10000x216_S_d0_1_2 h_S_) main_v2 main_c
  let main_v4 : FVec F S1x12x3 .f32 := Host.absf main_arg4
  let main_cst_0 : FVec F S_ .f32 := constant S_ .f32 0x7F800000#32
  let main_v5 : FVec F S1x12x3 .f32 := broadcastInDim S1x12x3 ![] bcast_S_S1x12x3 main_cst_0
  let main_v6 : IVec S1x12x3 1 := cmpf .olt main_v4 main_v5
  let main_c_1 : IVec S_ 1 := constantI S_ 1 1#1
  let main_v7 : IVec S_ 1 := (fun x v => Host.reduce IntOp.andi x v reducesTo_S1x12x3_S_d0_1_2 h_S_) main_v6 main_c_1
  let main_v8 : FVec F S1 .f32 := Host.absf main_arg5
  let main_cst_2 : FVec F S_ .f32 := constant S_ .f32 0x7F800000#32
  let main_v9 : FVec F S1 .f32 := broadcastInDim S1 ![] bcast_S_S1 main_cst_2
  let main_v10 : IVec S1 1 := cmpf .olt main_v8 main_v9
  let main_c_3 : IVec S_ 1 := constantI S_ 1 1#1
  let main_v11 : IVec S_ 1 := (fun x v => Host.reduce IntOp.andi x v reducesTo_S1_S_d0 h_S_) main_v10 main_c_3
  let main_v12 : FVec F S12x12x12 .f32 := Host.absf main_arg6
  let main_cst_4 : FVec F S_ .f32 := constant S_ .f32 0x7F800000#32
  let main_v13 : FVec F S12x12x12 .f32 := broadcastInDim S12x12x12 ![] bcast_S_S12x12x12 main_cst_4
  let main_v14 : IVec S12x12x12 1 := cmpf .olt main_v12 main_v13
  let main_c_5 : IVec S_ 1 := constantI S_ 1 1#1
  let main_v15 : IVec S_ 1 := (fun x v => Host.reduce IntOp.andi x v reducesTo_S12x12x12_S_d0_1_2 h_S_) main_v14 main_c_5
  fn_part1 (F := F) main_v3 main_v7 main_v11 main_v15
-- ==== Kernel.lean ====
abbrev S8x10000x216 : Shape := ⟨3, ![8, 10000, 216]⟩
abbrev S8x10000x12 : Shape := ⟨3, ![8, 10000, 12]⟩
abbrev S12x12 : Shape := ⟨2, ![12, 12]⟩
abbrev S1x12x3 : Shape := ⟨3, ![1, 12, 3]⟩
abbrev S1 : Shape := ⟨1, ![1]⟩
abbrev S12x12x12 : Shape := ⟨3, ![12, 12, 12]⟩
abbrev S12 : Shape := ⟨1, ![12]⟩
abbrev S10000x12 : Shape := ⟨2, ![10000, 12]⟩
abbrev S144x12 : Shape := ⟨2, ![144, 12]⟩
abbrev S12x3 : Shape := ⟨2, ![12, 3]⟩
abbrev S1x12 : Shape := ⟨2, ![1, 12]⟩
abbrev S2x12 : Shape := ⟨2, ![2, 12]⟩
abbrev S1x10000x216 : Shape := ⟨3, ![1, 10000, 216]⟩
abbrev S1x10000x12 : Shape := ⟨3, ![1, 10000, 12]⟩
abbrev S216x24 : Shape := ⟨2, ![216, 24]⟩
abbrev S18x12 : Shape := ⟨2, ![18, 12]⟩
abbrev S1x1 : Shape := ⟨2, ![1, 1]⟩
abbrev S10000x216 : Shape := ⟨2, ![10000, 216]⟩
abbrev S10000x24 : Shape := ⟨2, ![10000, 24]⟩

abbrev nBuf : Space → Nat
  | .hbm => 18
  | .vmem => 14
  | .smem => 0
  | _ => 0

abbrev bufTy : (tb : Table) → Fin (tcTables nBuf tb) → BufTy
  | .hbm, ⟨0, _⟩ => ⟨S8x10000x216, .f32⟩
  | .hbm, ⟨1, _⟩ => ⟨S8x10000x12, .f32⟩
  | .hbm, ⟨2, _⟩ => ⟨S12x12, .f32⟩
  | .hbm, ⟨3, _⟩ => ⟨S12x12, .f32⟩
  | .hbm, ⟨4, _⟩ => ⟨S1x12x3, .f32⟩
  | .hbm, ⟨5, _⟩ => ⟨S1, .f32⟩
  | .hbm, ⟨6, _⟩ => ⟨S12x12x12, .f32⟩
  | .hbm, ⟨7, _⟩ => ⟨S12, .f32⟩
  | .hbm, ⟨8, _⟩ => ⟨S12x12, .f32⟩
  | .hbm, ⟨9, _⟩ => ⟨S10000x12, .f32⟩
  | .hbm, ⟨10, _⟩ => ⟨S12x12x12, .f32⟩
  | .hbm, ⟨11, _⟩ => ⟨S144x12, .f32⟩
  | .hbm, ⟨12, _⟩ => ⟨S12x3, .f32⟩
  | .hbm, ⟨13, _⟩ => ⟨S12, .f32⟩
  | .hbm, ⟨14, _⟩ => ⟨S1x12, .f32⟩
  | .hbm, ⟨15, _⟩ => ⟨S1x12, .f32⟩
  | .hbm, ⟨16, _⟩ => ⟨S2x12, .f32⟩
  | .hbm, ⟨17, _⟩ => ⟨S8x10000x12, .f32⟩
  | .local _ .vmem, ⟨0, _⟩ => ⟨S1x10000x216, .f32⟩
  | .local _ .vmem, ⟨1, _⟩ => ⟨S1x10000x216, .f32⟩
  | .local _ .vmem, ⟨2, _⟩ => ⟨S1x10000x12, .f32⟩
  | .local _ .vmem, ⟨3, _⟩ => ⟨S1x10000x12, .f32⟩
  | .local _ .vmem, ⟨4, _⟩ => ⟨S10000x12, .f32⟩
  | .local _ .vmem, ⟨5, _⟩ => ⟨S12x12, .f32⟩
  | .local _ .vmem, ⟨6, _⟩ => ⟨S12x12, .f32⟩
  | .local _ .vmem, ⟨7, _⟩ => ⟨S12x3, .f32⟩
  | .local _ .vmem, ⟨8, _⟩ => ⟨S144x12, .f32⟩
  | .local _ .vmem, ⟨9, _⟩ => ⟨S2x12, .f32⟩
  | .local _ .vmem, ⟨10, _⟩ => ⟨S12x12, .f32⟩
  | .local _ .vmem, ⟨11, _⟩ => ⟨S1x10000x12, .f32⟩
  | .local _ .vmem, ⟨12, _⟩ => ⟨S1x10000x12, .f32⟩
  | .local _ .vmem, ⟨13, _⟩ => ⟨S216x24, .f32⟩
  | _, _ => ⟨S8x10000x216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S144x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x10000x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x10000x216 : Shape := ⟨3, ![8, 10000, 216]⟩
abbrev S8x10000x12 : Shape := ⟨3, ![8, 10000, 12]⟩
abbrev S12x12 : Shape := ⟨2, ![12, 12]⟩
abbrev S1x12x3 : Shape := ⟨3, ![1, 12, 3]⟩
abbrev S1 : Shape := ⟨1, ![1]⟩
abbrev S12x12x12 : Shape := ⟨3, ![12, 12, 12]⟩
abbrev S12 : Shape := ⟨1, ![12]⟩
abbrev S10000x12 : Shape := ⟨2, ![10000, 12]⟩
abbrev S80000x12x18 : Shape := ⟨3, ![80000, 12, 18]⟩
abbrev S_ : Shape := ⟨0, ![]⟩
abbrev S1x12 : Shape := ⟨2, ![1, 12]⟩
abbrev S1x12x12 : Shape := ⟨3, ![1, 12, 12]⟩
abbrev S80000x12x12 : Shape := ⟨3, ![80000, 12, 12]⟩
abbrev S80000x12x12x1 : Shape := ⟨4, ![80000, 12, 12, 1]⟩
abbrev S1x1x1x1 : Shape := ⟨4, ![1, 1, 1, 1]⟩
abbrev S80000x12x14 : Shape := ⟨3, ![80000, 12, 14]⟩
abbrev S1x12x1 : Shape := ⟨3, ![1, 12, 1]⟩
abbrev S80000x12 : Shape := ⟨2, ![80000, 12]⟩
abbrev S1x1 : Shape := ⟨2, ![1, 1]⟩
abbrev S1x10000x12 : Shape := ⟨3, ![1, 10000, 12]⟩

abbrev nBuf : Space → Nat
  | .hbm => 212
  | .vmem => 0
  | .smem => 0
  | _ => 0

abbrev hbmTy0_0 (i : Nat) : BufTy := match i % 128 with
  | 0 => ⟨S8x10000x216, .f32⟩
  | 1 => ⟨S8x10000x12, .f32⟩
  | 2 => ⟨S12x12, .f32⟩
  | 3 => ⟨S12x12, .f32⟩
  | 4 => ⟨S1x12x3, .f32⟩
  | 5 => ⟨S1, .f32⟩
  | 6 => ⟨S12x12x12, .f32⟩
  | 7 => ⟨S12, .f32⟩
  | 8 => ⟨S12x12, .f32⟩
  | 9 => ⟨S10000x12, .f32⟩
  | 10 => ⟨S80000x12x18, .f32⟩
  | 11 => ⟨S12, .f32⟩
  | 12 => ⟨S_, .f32⟩
  | 13 => ⟨S12, .f32⟩
  | 14 => ⟨S12, .f32⟩
  | 15 => ⟨S1x12, .f32⟩
  | 16 => ⟨S12x12, .f32⟩
  | 17 => ⟨S_, .f32⟩
  | 18 => ⟨S12x12, .f32⟩
  | 19 => ⟨S12x12, .f32⟩
  | 20 => ⟨S12x12, .f32⟩
  | 21 => ⟨S12x12, .f32⟩
  | 22 => ⟨S12x12, .f32⟩
  | 23 => ⟨S12x12, .i32⟩
  | 24 => ⟨S12x12, .f32⟩
  | 25 => ⟨S1x12x12, .i32⟩
  | 26 => ⟨S80000x12x12, .i32⟩
  | 27 => ⟨S_, .i32⟩
  | 28 => ⟨S80000x12x12, .i32⟩
  | 29 => ⟨S80000x12x12, .i1⟩
  | 30 => ⟨S_, .i32⟩
  | 31 => ⟨S80000x12x12, .i32⟩
  | 32 => ⟨S80000x12x12, .i32⟩
  | 33 => ⟨S80000x12x12, .i32⟩
  | 34 => ⟨S80000x12x12x1, .i32⟩
  | 35 => ⟨S1, .i32⟩
  | 36 => ⟨S_, .i32⟩
  | 37 => ⟨S80000x12x12x1, .i32⟩
  | 38 => ⟨S80000x12x12x1, .i1⟩
  | 39 => ⟨S1x1x1x1, .i32⟩
  | 40 => ⟨S80000x12x12x1, .i32⟩
  | 41 => ⟨S80000x12x12x1, .i1⟩
  | 42 => ⟨S80000x12x12x1, .i1⟩
  | 43 => ⟨S_, .i1⟩
  | 44 => ⟨S80000x12x12, .i1⟩
  | 45 => ⟨S80000x12x12, .f32⟩
  | 46 => ⟨S_, .f32⟩
  | 47 => ⟨S80000x12x12, .f32⟩
  | 48 => ⟨S80000x12x12, .f32⟩
  | 49 => ⟨S_, .i32⟩
  | 50 => ⟨S80000x12x12, .i32⟩
  | 51 => ⟨S80000x12x12, .i32⟩
  | 52 => ⟨S_, .i32⟩
  | 53 => ⟨S80000x12x12, .i32⟩
  | 54 => ⟨S80000x12x12, .i1⟩
  | 55 => ⟨S_, .i32⟩
  | 56 => ⟨S80000x12x12, .i32⟩
  | 57 => ⟨S80000x12x12, .i32⟩
  | 58 => ⟨S80000x12x12, .i32⟩
  | 59 => ⟨S80000x12x12x1, .i32⟩
  | 60 => ⟨S1, .i32⟩
  | 61 => ⟨S_, .i32⟩
  | 62 => ⟨S80000x12x12x1, .i32⟩
  | 63 => ⟨S80000x12x12x1, .i1⟩
  | 64 => ⟨S1x1x1x1, .i32⟩
  | 65 => ⟨S80000x12x12x1, .i32⟩
  | 66 => ⟨S80000x12x12x1, .i1⟩
  | 67 => ⟨S80000x12x12x1, .i1⟩
  | 68 => ⟨S_, .i1⟩
  | 69 => ⟨S80000x12x12, .i1⟩
  | 70 => ⟨S80000x12x12, .f32⟩
  | 71 => ⟨S_, .f32⟩
  | 72 => ⟨S80000x12x12, .f32⟩
  | 73 => ⟨S80000x12x12, .f32⟩
  | 74 => ⟨S_, .f32⟩
  | 75 => ⟨S12x12, .f32⟩
  | 76 => ⟨S12x12, .f32⟩
  | 77 => ⟨S12x12, .f32⟩
  | 78 => ⟨S1x12x12, .f32⟩
  | 79 => ⟨S80000x12x12, .f32⟩
  | 80 => ⟨S80000x12x12, .f32⟩
  | 81 => ⟨S12x12, .f32⟩
  | 82 => ⟨S1x12x12, .f32⟩
  | 83 => ⟨S80000x12x12, .f32⟩
  | 84 => ⟨S80000x12x12, .f32⟩
  | 85 => ⟨S80000x12x12, .f32⟩
  | 86 => ⟨S_, .i32⟩
  | 87 => ⟨S1, .i32⟩
  | 88 => ⟨S80000x12x18, .f32⟩
  | 89 => ⟨S80000x12x12, .f32⟩
  | 90 => ⟨S_, .i32⟩
  | 91 => ⟨S_, .f32⟩
  | 92 => ⟨S80000x12x14, .f32⟩
  | 93 => ⟨S80000x12x12, .f32⟩
  | 94 => ⟨S1x12x1, .f32⟩
  | 95 => ⟨S12, .f32⟩
  | 96 => ⟨S80000x12, .f32⟩
  | 97 => ⟨S_, .f32⟩
  | 98 => ⟨S80000x12, .f32⟩
  | 99 => ⟨S80000x12, .f32⟩
  | 100 => ⟨S80000x12x12, .f32⟩
  | 101 => ⟨S1x12x1, .f32⟩
  | 102 => ⟨S12, .f32⟩
  | 103 => ⟨S80000x12, .f32⟩
  | 104 => ⟨S80000x12, .f32⟩
  | 105 => ⟨S80000x12x12, .f32⟩
  | 106 => ⟨S1x12x1, .f32⟩
  | 107 => ⟨S12, .f32⟩
  | 108 => ⟨S80000x12, .f32⟩
  | 109 => ⟨S80000x12, .f32⟩
  | 110 => ⟨S1x1, .f32⟩
  | 111 => ⟨S80000x12, .f32⟩
  | 112 => ⟨S80000x12, .f32⟩
  | 113 => ⟨S8x10000x12, .f32⟩
  | 114 => ⟨S12x12, .f32⟩
  | 115 => ⟨S_, .f32⟩
  | 116 => ⟨S12x12, .f32⟩
  | 117 => ⟨S12x12, .f32⟩
  | 118 => ⟨S12x12, .f32⟩
  | 119 => ⟨S12x12, .f32⟩
  | 120 => ⟨S12x12, .f32⟩
  | 121 => ⟨S12x12, .i32⟩
  | 122 => ⟨S12x12, .f32⟩
  | 123 => ⟨S1x12x12, .i32⟩
  | 124 => ⟨S80000x12x12, .i32⟩
  | 125 => ⟨S_, .i32⟩
  | 126 => ⟨S80000x12x12, .i32⟩
  | 127 => ⟨S80000x12x12, .i1⟩
  | _ => ⟨S8x10000x216, .f32⟩

abbrev hbmTy0_1 (i : Nat) : BufTy := match i % 128 with
  | 0 => ⟨S_, .i32⟩
  | 1 => ⟨S80000x12x12, .i32⟩
  | 2 => ⟨S80000x12x12, .i32⟩
  | 3 => ⟨S80000x12x12, .i32⟩
  | 4 => ⟨S80000x12x12x1, .i32⟩
  | 5 => ⟨S1, .i32⟩
  | 6 => ⟨S_, .i32⟩
  | 7 => ⟨S80000x12x12x1, .i32⟩
  | 8 => ⟨S80000x12x12x1, .i1⟩
  | 9 => ⟨S1x1x1x1, .i32⟩
  | 10 => ⟨S80000x12x12x1, .i32⟩
  | 11 => ⟨S80000x12x12x1, .i1⟩
  | 12 => ⟨S80000x12x12x1, .i1⟩
  | 13 => ⟨S_, .i1⟩
  | 14 => ⟨S80000x12x12, .i1⟩
  | 15 => ⟨S80000x12x12, .f32⟩
  | 16 => ⟨S_, .f32⟩
  | 17 => ⟨S80000x12x12, .f32⟩
  | 18 => ⟨S80000x12x12, .f32⟩
  | 19 => ⟨S_, .i32⟩
  | 20 => ⟨S80000x12x12, .i32⟩
  | 21 => ⟨S80000x12x12, .i32⟩
  | 22 => ⟨S_, .i32⟩
  | 23 => ⟨S80000x12x12, .i32⟩
  | 24 => ⟨S80000x12x12, .i1⟩
  | 25 => ⟨S_, .i32⟩
  | 26 => ⟨S80000x12x12, .i32⟩
  | 27 => ⟨S80000x12x12, .i32⟩
  | 28 => ⟨S80000x12x12, .i32⟩
  | 29 => ⟨S80000x12x12x1, .i32⟩
  | 30 => ⟨S1, .i32⟩
  | 31 => ⟨S_, .i32⟩
  | 32 => ⟨S80000x12x12x1, .i32⟩
  | 33 => ⟨S80000x12x12x1, .i1⟩
  | 34 => ⟨S1x1x1x1, .i32⟩
  | 35 => ⟨S80000x12x12x1, .i32⟩
  | 36 => ⟨S80000x12x12x1, .i1⟩
  | 37 => ⟨S80000x12x12x1, .i1⟩
  | 38 => ⟨S_, .i1⟩
  | 39 => ⟨S80000x12x12, .i1⟩
  | 40 => ⟨S80000x12x12, .f32⟩
  | 41 => ⟨S_, .f32⟩
  | 42 => ⟨S80000x12x12, .f32⟩
  | 43 => ⟨S80000x12x12, .f32⟩
  | 44 => ⟨S_, .f32⟩
  | 45 => ⟨S12x12, .f32⟩
  | 46 => ⟨S12x12, .f32⟩
  | 47 => ⟨S12x12, .f32⟩
  | 48 => ⟨S1x12x12, .f32⟩
  | 49 => ⟨S80000x12x12, .f32⟩
  | 50 => ⟨S80000x12x12, .f32⟩
  | 51 => ⟨S12x12, .f32⟩
  | 52 => ⟨S1x12x12, .f32⟩
  | 53 => ⟨S80000x12x12, .f32⟩
  | 54 => ⟨S80000x12x12, .f32⟩
  | 55 => ⟨S80000x12x12, .f32⟩
  | 56 => ⟨S_, .i32⟩
  | 57 => ⟨S1, .i32⟩
  | 58 => ⟨S80000x12x18, .f32⟩
  | 59 => ⟨S80000x12x12, .f32⟩
  | 60 => ⟨S80000x12x12, .f32⟩
  | 61 => ⟨S80000x12, .f32⟩
  | 62 => ⟨S1x12, .f32⟩
  | 63 => ⟨S80000x12, .f32⟩
  | 64 => ⟨S80000x12, .f32⟩
  | 65 => ⟨S8x10000x12, .f32⟩
  | 66 => ⟨S8x10000x12, .f32⟩
  | 67 => ⟨S1x10000x12, .f32⟩
  | 68 => ⟨S8x10000x12, .f32⟩
  | 69 => ⟨S8x10000x12, .f32⟩
  | 70 => ⟨S8x10000x12, .f32⟩
  | 71 => ⟨S8x10000x12, .f32⟩
  | 72 => ⟨S_, .f32⟩
  | 73 => ⟨S8x10000x12, .f32⟩
  | 74 => ⟨S8x10000x12, .f32⟩
  | 75 => ⟨S_, .f32⟩
  | 76 => ⟨S8x10000x12, .f32⟩
  | 77 => ⟨S8x10000x12, .f32⟩
  | 78 => ⟨S8x10000x12, .f32⟩
  | 79 => ⟨S_, .f32⟩
  | 80 => ⟨S8x10000x12, .f32⟩
  | 81 => ⟨S8x10000x12, .f32⟩
  | 82 => ⟨S8x10000x12, .f32⟩
  | 83 => ⟨S8x10000x12, .f32⟩
  | _ => ⟨S8x10000x216, .f32⟩

abbrev hbmTy (i : Nat) : BufTy := match i / 128 with
  | 0 => hbmTy0_0 i
  | 1 => hbmTy0_1 i
  | _ => ⟨S8x10000x216, .f32⟩

abbrev bufTy : (tb : Table) → Fin (tcTables nBuf tb) → BufTy
  | .hbm, ⟨i, _⟩ => hbmTy i
  | _, _ => ⟨S8x10000x216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v15 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v18 : Ref sig .tc := ⟨.hbm, 73, rfl⟩
abbrev main_cst_1 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_c_2 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_c_3 : Ref sig .tc := ⟨.hbm, 90, rfl⟩
abbrev main_call2_v0 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst_4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_5 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_cst : Ref sig .tc := ⟨.hbm, 144, rfl⟩
abbrev main_call3_v14 : Ref sig .tc := ⟨.hbm, 145, rfl⟩
abbrev main_v64 : Ref sig .tc := ⟨.hbm, 146, rfl⟩
abbrev main_c_6 : Ref sig .tc := ⟨.hbm, 147, rfl⟩
abbrev main_v65 : Ref sig .tc := ⟨.hbm, 148, rfl⟩
abbrev main_v66 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_cst : Ref sig .tc := ⟨.hbm, 169, rfl⟩
abbrev main_call4_v14 : Ref sig .tc := ⟨.hbm, 170, rfl⟩
abbrev main_v67 : Ref sig .tc := ⟨.hbm, 171, rfl⟩
abbrev main_cst_7 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_c_8 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_cst_9 : Ref sig .tc := ⟨.hbm, 200, rfl⟩
abbrev main_v94 : Ref sig .tc := ⟨.hbm, 201, rfl⟩
abbrev main_v95 : Ref sig .tc := ⟨.hbm, 202, rfl⟩
abbrev main_cst_10 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_11 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩

abbrev nD : Nat := 1
abbrev τ : Topo := Topo.v7x

variable {F : FTy → Type} [FloatOps F]
-- ==== Proof.Spec.lean ====
/- The mathematics of the deformable temporal layer over the real numbers: where an offset moves a position, the weights with
   which the eighteen entries of a row enter an interpolated entry, and the equation that the two programs rest on — combining
   the rows through one precomputed matrix is interpolating first and convolving afterwards. -/
module

public import Mathlib.Algebra.BigOperators.Fin
public import Mathlib.Algebra.Order.Floor.Ring
public import Idealize.ShloMosaic.PureOps.Ideal

@[expose] public section

noncomputable section

namespace Cert.Deform

open Idealize.ShloMosaic

/-- The hyperbolic tangent of an extended real, as a real number. -/
def th (x : EReal) : ℝ := (Ideal.tanh x).toReal

/-- The hyperbolic tangent of every extended real is the real number `th`. -/
theorem tanh_eq (x : EReal) : Ideal.tanh x = ((th x : ℝ) : EReal) := by
  unfold th
  induction x using EReal.rec with
  | bot => rw [Ideal.tanh_bot]; norm_cast
  | top => rw [Ideal.tanh_top]; norm_cast
  | coe r => rw [Ideal.tanh_coe, EReal.toReal_coe]

/-- It lies between minus one and one. -/
theorem th_bounds (x : EReal) : -1 ≤ th x ∧ th x ≤ 1 := by
  unfold th
  induction x using EReal.rec with
  | bot => rw [Ideal.tanh_bot]; norm_num
  | top => rw [Ideal.tanh_top]; norm_num
  | coe r => rw [Ideal.tanh_coe, EReal.toReal_coe]; exact ⟨(Real.neg_one_lt_tanh r).le, (Real.tanh_lt_one r).le⟩

/-- The position that column `j` is moved to. -/
def pos (x : EReal) (j : ℕ) : ℝ := th x * 3 + ((j : ℝ) + 3)

/-- The entry at or before that position. -/
def key (x : EReal) (j : ℕ) : ℤ := ⌊pos x j⌋

/-- How far past that entry the position is. -/
def frac (x : EReal) (j : ℕ) : ℝ := pos x j - (key x j : ℝ)

/-- The weight of entry `k` in the interpolated entry. -/
def wt (x : EReal) (j k : ℕ) : ℝ :=
  (if (k : ℝ) = (key x j : ℝ) then 1 else 0) * (1 - frac x j) + (if (k : ℝ) = (key x j : ℝ) + 1 then 1 else 0) * frac x j

/-- The entry is one of the row's eighteen, for each of the twelve columns. -/
theorem key_bounds (x : EReal) (j : ℕ) (hj : j < 12) : 0 ≤ key x j ∧ key x j ≤ 17 := by
  have h := th_bounds x
  have hj' : (j : ℝ) ≤ 11 := by exact_mod_cast Nat.le_of_lt_succ hj
  have hj0 : (0 : ℝ) ≤ (j : ℝ) := Nat.cast_nonneg j
  unfold key pos
  refine ⟨Int.floor_nonneg.2 (by linarith), ?_⟩
  have : ⌊th x * 3 + ((j : ℝ) + 3)⌋ < 18 := Int.floor_lt.2 (by push_cast; linarith)
  omega

/-- At the last entry the position is on it. -/
theorem frac_of_last (x : EReal) (j : ℕ) (hj : j < 12) (hk : key x j = 17) : frac x j = 0 := by
  have h := th_bounds x
  have hj' : (j : ℝ) ≤ 11 := by exact_mod_cast Nat.le_of_lt_succ hj
  have h1 : ((key x j : ℤ) : ℝ) ≤ pos x j := Int.floor_le _
  have h2 : pos x j ≤ 17 := by unfold pos; linarith
  unfold frac
  rw [hk] at h1 ⊢
  push_cast at h1 ⊢
  linarith

/-- The weighted sum over the row is the linear interpolation between the two neighbouring entries; past the last entry the
    second one counts for nothing, whatever it is taken to be. -/
theorem sum_wt (x : EReal) (j : ℕ) (hj : j < 12) (f : Fin 18 → ℝ) (lo hi : Fin 18) (hlo : (lo.val : ℤ) = key x j)
    (hhi : key x j < 17 → (hi.val : ℤ) = key x j + 1) :
    ∑ k : Fin 18, f k * wt x j k.val = f lo * (1 - frac x j) + f hi * frac x j := by
  have e1 : ∀ k : Fin 18, ((k.val : ℝ) = (key x j : ℝ)) ↔ k = lo := fun k => by
    rw [← hlo, Fin.ext_iff]; norm_cast
  have hb := key_bounds x j hj
  simp only [wt, e1, mul_add, Finset.sum_add_distrib]
  congr 1
  · rw [Finset.sum_eq_single lo]
    · simp
    · intro k _ hk; simp [hk]
    · intro h; exact absurd (Finset.mem_univ _) h
  · by_cases h17 : key x j = 17
    · simp [frac_of_last x j hj h17]
    · have hh := hhi (by omega)
      have e2 : ∀ k : Fin 18, ((k.val : ℝ) = (key x j : ℝ) + 1) ↔ k = hi := fun k => by
        have : ((hi.val : ℤ) : ℝ) = (key x j : ℝ) + 1 := by rw [hh]; push_cast; ring
        rw [← this, Fin.ext_iff]; norm_cast
      simp only [e2]
      rw [Finset.sum_eq_single hi]
      · simp
      · intro k _ hk; simp [hk]
      · intro h; exact absurd (Finset.mem_univ _) h

/-- A row of twelve with one zero on each side, at position `n` of the fourteen. -/
def padded (g : Fin 12 → ℝ) (n : ℕ) : ℝ := if h : 1 ≤ n ∧ n ≤ 12 then g ⟨n - 1, by omega⟩ else 0

/-- Inside the padding the row is read one to the left. -/
theorem padded_succ (g : Fin 12 → ℝ) (j : Fin 12) : padded g (j.val + 1) = g j := by
  unfold padded
  rw [dif_pos ⟨by omega, by omega⟩]
  rfl

/-- The row moved one to the right, as a product with a matrix of zeros and ones. -/
theorem sum_right (g : Fin 12 → ℝ) (j : Fin 12) :
    ∑ n : Fin 12, g n * (if (j.val : ℝ) - (n.val : ℝ) = 1 then 1 else 0) = padded g j.val := by
  have e : ∀ n : Fin 12, ((j.val : ℝ) - (n.val : ℝ) = 1) ↔ j.val = n.val + 1 := fun n => by
    rw [sub_eq_iff_eq_add']; norm_cast
  simp only [e]
  unfold padded
  split
  · rename_i h
    rw [Finset.sum_eq_single ⟨j.val - 1, by omega⟩]
    · rw [if_pos (by show j.val = j.val - 1 + 1; omega), mul_one]
    · intro n _ hn
      rw [if_neg, mul_zero]
      intro h'; exact hn (Fin.ext (by show n.val = j.val - 1; omega))
    · intro h'; exact absurd (Finset.mem_univ _) h'
  · exact Finset.sum_eq_zero fun n _ => by rw [if_neg (by omega), mul_zero]

/-- The row moved one to the left, as a product with a matrix of zeros and ones. -/
theorem sum_left (g : Fin 12 → ℝ) (j : Fin 12) :
    ∑ n : Fin 12, g n * (if (n.val : ℝ) - (j.val : ℝ) = 1 then 1 else 0) = padded g (j.val + 2) := by
  have e : ∀ n : Fin 12, ((n.val : ℝ) - (j.val : ℝ) = 1) ↔ n.val = j.val + 1 := fun n => by
    rw [sub_eq_iff_eq_add']; norm_cast
  simp only [e]
  unfold padded
  split
  · rename_i h
    rw [Finset.sum_eq_single ⟨j.val + 2 - 1, by omega⟩]
    · rw [if_pos (by show j.val + 2 - 1 = j.val + 1; omega), mul_one]
    · intro n _ hn
      rw [if_neg, mul_zero]
      intro h'; exact hn (Fin.ext (by show n.val = j.val + 2 - 1; omega))
    · intro h'; exact absurd (Finset.mem_univ _) h'
  · exact Finset.sum_eq_zero fun n _ => by rw [if_neg (by omega), mul_zero]

/-- Row `i` of `X` interpolated at the position that the offset moves column `j` to. -/
def interp (o : Fin 12 → Fin 12 → EReal) (X : Fin 12 → Fin 18 → ℝ) (i j : Fin 12) : ℝ :=
  ∑ k : Fin 18, X i k * wt (o i j) j.val k.val

/-- The convolution along time with three taps and one zero on each side, summed over the twelve rows. -/
def convT (D : Fin 12 → Fin 12 → ℝ) (w : Fin 12 → Fin 3 → ℝ) (j : Fin 12) : ℝ :=
  ∑ i : Fin 12, padded (D i) j.val * w i 0 + ∑ i : Fin 12, padded (D i) (j.val + 1) * w i 1
    + ∑ i : Fin 12, padded (D i) (j.val + 2) * w i 2

/-- The full contraction of the interpolated rows. -/
def convN (D : Fin 12 → Fin 12 → ℝ) (w : Fin 12 → Fin 12 → Fin 12 → ℝ) (j : Fin 12) : ℝ :=
  ∑ p : Fin 12, ∑ i : Fin 12, D i p * w j p i

/-- The precomputed matrix for the convolution along time: what entry `k` of row `i` gives to column `j`. -/
def mapT (o : Fin 12 → Fin 12 → EReal) (w : Fin 12 → Fin 3 → ℝ) (i : Fin 12) (k : Fin 18) (j : Fin 12) : ℝ :=
  wt (o i j) j.val k.val * w i 1 + padded (fun n => wt (o i n) n.val k.val * w i 0) j.val
    + padded (fun n => wt (o i n) n.val k.val * w i 2) (j.val + 2)

/-- The precomputed matrix for the full contraction. -/
def mapN (o : Fin 12 → Fin 12 → EReal) (w : Fin 12 → Fin 12 → Fin 12 → ℝ) (i : Fin 12) (k : Fin 18) (j : Fin 12) : ℝ :=
  ∑ p : Fin 12, wt (o i p) p.val k.val * w j p i

/-- Padding passes through a weighted sum over the row's entries. -/
theorem sum_padded (X : Fin 18 → ℝ) (s : Fin 18 → Fin 12 → ℝ) (c : ℝ) (n : ℕ) :
    ∑ k : Fin 18, X k * padded (fun j => s k j * c) n = padded (fun j => ∑ k : Fin 18, X k * s k j) n * c := by
  unfold padded
  split
  · rw [Finset.sum_mul]
    exact Finset.sum_congr rfl fun k _ => by ring
  · simp

/-- Combining the rows through the first precomputed matrix is interpolating and then convolving along time. -/
theorem mapT_eq (o : Fin 12 → Fin 12 → EReal) (X : Fin 12 → Fin 18 → ℝ) (w : Fin 12 → Fin 3 → ℝ) (j : Fin 12) :
    ∑ i : Fin 12, ∑ k : Fin 18, X i k * mapT o w i k j = convT (interp o X) w j := by
  unfold convT
  rw [← Finset.sum_add_distrib, ← Finset.sum_add_distrib]
  refine Finset.sum_congr rfl fun i _ => ?_
  have hD : (fun n : Fin 12 => ∑ k : Fin 18, X i k * wt (o i n) n.val k.val) = interp o X i := rfl
  have h1 : ∑ k : Fin 18, X i k * (wt (o i j) j.val k.val * w i 1) = interp o X i j * w i 1 := by
    unfold interp
    rw [Finset.sum_mul]
    exact Finset.sum_congr rfl fun k _ => by ring
  simp only [mapT, mul_add, Finset.sum_add_distrib, sum_padded, padded_succ, hD, h1]
  ring

/-- Combining the rows through the second precomputed matrix is interpolating and then contracting. -/
theorem mapN_eq (o : Fin 12 → Fin 12 → EReal) (X : Fin 12 → Fin 18 → ℝ) (w : Fin 12 → Fin 12 → Fin 12 → ℝ) (j : Fin 12) :
    ∑ i : Fin 12, ∑ k : Fin 18, X i k * mapN o w i k j = convN (interp o X) w j := by
  unfold convN
  refine Eq.trans ?_ Finset.sum_comm
  refine Finset.sum_congr rfl fun i _ => ?_
  simp only [mapN, interp, Finset.mul_sum, Finset.sum_mul]
  rw [Finset.sum_comm]
  exact Finset.sum_congr rfl fun p _ => Finset.sum_congr rfl fun k _ => by ring

/-- A sum over the 216 entries of a flat row is a sum over its twelve rows of eighteen. -/
theorem sum_flat (f : Fin 216 → ℝ) :
    ∑ q : Fin 216, f q = ∑ i : Fin 12, ∑ k : Fin 18, f ⟨i.val * 18 + k.val, by omega⟩ := by
  rw [← (finProdFinEquiv (m := 12) (n := 18)).sum_comp, Fintype.sum_prod_type]
  refine Finset.sum_congr rfl fun i _ => Finset.sum_congr rfl fun k _ => congrArg f (Fin.ext ?_)
  show k.val + 18 * i.val = i.val * 18 + k.val
  omega

/-- The two spellings of the gate agree: `t + g (n - t)` and `n g + t (1 - g)`, for a gate between zero and one, a finite first
    prediction and any second one. -/
theorem gate_eq (t g : ℝ) (n : EReal) (h0 : 0 ≤ g) (h1 : g ≤ 1) :
    ((t : EReal) + (g : EReal) * (n - (t : EReal))) = n * (g : EReal) + (t : EReal) * (1 - (g : EReal)) := by
  have e1 : (t : EReal) * (1 - (g : EReal)) = ((t * (1 - g) : ℝ) : EReal) := by push_cast; rfl
  rcases h0.eq_or_lt with rfl | hg
  · rw [e1]; simp
  · rw [e1]
    induction n using EReal.rec with
    | bot =>
      rw [EReal.bot_sub, EReal.coe_mul_bot_of_pos hg, EReal.bot_mul_coe_of_pos hg, EReal.add_bot, EReal.bot_add]
    | top =>
      rw [EReal.top_sub_coe, EReal.coe_mul_top_of_pos hg, EReal.top_mul_coe_of_pos hg, EReal.coe_add_top, EReal.top_add_coe]
    | coe r => norm_cast; ring

/-- The logistic function of every extended real is a number between zero and one. -/
theorem logistic_real (x : EReal) : ∃ g : ℝ, 0 ≤ g ∧ g ≤ 1 ∧ Ideal.logistic x = (g : EReal) := by
  induction x using EReal.rec with
  | bot => exact ⟨0, le_refl _, zero_le_one, by rw [Ideal.logistic_bot]; rfl⟩
  | top => exact ⟨1, zero_le_one, le_refl _, by rw [Ideal.logistic_top]; rfl⟩
  | coe r =>
    have h : 0 < Real.exp (-r) := Real.exp_pos _
    exact ⟨(1 + Real.exp (-r))⁻¹, by positivity, inv_le_one_of_one_le₀ (by linarith), Ideal.logistic_coe r⟩

end Cert.Deform

end
-- ==== Proof.Scalars.lean ====
/- The scalar operations of the two programs on numbers: the constants, the counters and the comparisons they hold, and the
   position they compute from an offset. -/
module

public import proofs.«01_k».proof.Proof.Spec
public import Idealize.ShloMosaic.PureOps.Ideal.Laws
public import Idealize.ShloMosaic.Lib.IdealHost

@[expose] public section

noncomputable section

namespace Cert.Deform

open Idealize.ShloMosaic

/-- The constant three. -/
theorem three_lit : Ideal.ofBits .f32 1077936128#32 = ((3 : ℝ) : EReal) := by
  simp [Ideal.ofBits, Ideal.ieee]
  rw [← EReal.coe_mul]
  norm_num

/-- A finite sum of real numbers, read as extended reals, is the sum of the readings. -/
theorem coe_sum {n : ℕ} (f : Fin n → ℝ) : ∑ k, ((f k : ℝ) : EReal) = ((∑ k, f k : ℝ) : EReal) :=
  (map_sum (⟨⟨fun r : ℝ => (r : EReal), EReal.coe_zero⟩, EReal.coe_add⟩ : ℝ →+ EReal) f Finset.univ).symm

/-- The infinity word. -/
theorem inf_lit : Ideal.ofBits .f32 0x7F800000#32 = ⊤ := by
  simp [Ideal.ofBits, Ideal.ieee]

/-- A counter below two to the 31 converted to a float is the number. -/
theorem count_cast (n : ℕ) (h : n < 2 ^ 31) :
    FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- A comparison for equality of two numbers, as a float, is one or zero. -/
theorem eq_cast (a b : ℝ) [Decidable ((a : EReal) = (b : EReal))] :
    FloatOps.sitofp (F := Ideal) .f32 (BitVec.setWidth 32 (BitVec.ofBool (decide ((a : EReal) = (b : EReal)))))
      = (((if a = b then 1 else 0 : ℝ)) : EReal) := by
  by_cases h : a = b
  · have h' : (a : EReal) = (b : EReal) := by rw [h]
    rw [if_pos h, decide_eq_true h']
    show (((1 : ℤ) : ℝ) : EReal) = _
    norm_num
  · have h' : ¬(a : EReal) = (b : EReal) := fun e => h (EReal.coe_eq_coe_iff.1 e)
    rw [if_neg h, decide_eq_false h']
    show (((0 : ℤ) : ℝ) : EReal) = _
    norm_num

/-- The position as the kernel adds it up. -/
theorem pos_kernel (x : EReal) (j : ℕ) :
    Ideal.tanh x * ((3 : ℝ) : EReal) + ((j : ℝ) : EReal) + ((3 : ℝ) : EReal) = ((pos x j : ℝ) : EReal) := by
  rw [tanh_eq]
  unfold pos
  rw [← EReal.coe_mul, ← EReal.coe_add, ← EReal.coe_add]
  congr 1
  ring

/-- The position as the reference adds it up. -/
theorem pos_ref (x : EReal) (j : ℕ) :
    Ideal.tanh x * ((3 : ℝ) : EReal) + (((j : ℝ) : EReal) + ((3 : ℝ) : EReal)) = ((pos x j : ℝ) : EReal) := by
  rw [tanh_eq]
  unfold pos
  norm_cast

/-- The floor of the position is the entry. -/
theorem floor_pos (x : EReal) (j : ℕ) :
    Ideal.liftRound Int.floor ((pos x j : ℝ) : EReal) = (((key x j : ℤ) : ℝ) : EReal) := rfl

/-- The entry as an index word. -/
theorem key_word (x : EReal) (j : ℕ) (hj : j < 12) :
    Ideal.fptosi 32 (((key x j : ℤ) : ℝ) : EReal) = BitVec.ofInt 32 (key x j) := by
  have h := key_bounds x j hj
  show BitVec.ofInt 32 (max _ (min _ (if (0 : ℝ) ≤ ((key x j : ℤ) : ℝ) then ⌊((key x j : ℤ) : ℝ)⌋ else ⌈((key x j : ℤ) : ℝ)⌉))) = _
  rw [Int.floor_intCast, Int.ceil_intCast, ite_self]
  congr 1
  norm_num
  omega

/-- The index word converted back is the entry. -/
theorem word_cast (x : EReal) (j : ℕ) (hj : j < 12) :
    FloatOps.sitofp (F := Ideal) .f32 (BitVec.ofInt 32 (key x j)) = (((key x j : ℤ) : ℝ) : EReal) := by
  have h := key_bounds x j hj
  show (((BitVec.ofInt 32 (key x j)).toInt : ℝ) : EReal) = _
  rw [BitVec.toInt_ofInt, Int.bmod_eq_of_le (by omega) (by omega)]

end Cert.Deform

end
-- ==== Proof.Finite.lean ====
/- The precondition read back: the input and the three convolution parameters it names hold real numbers. -/
module

public import proofs.«01_k».proof.Defs
public import proofs.«01_k».proof.Proof.Scalars
public import Idealize.ShloMosaic.Lib.ReduceAll
public import Idealize.ShloMosaic.Lib.Pointwise

@[expose] public section

set_option maxRecDepth 16384

noncomputable section

namespace Cert.Finite

open Idealize.ShloMosaic Cert.Pre_finite

/-- The shape relations of the precondition hold. -/
theorem facts : Cert.Pre_finite.Facts where
  bcast_S_S8x10000x216 := by decide
  reducesTo_S8x10000x216_S_d0_1_2 := by decide
  h_S_ := by decide
  bcast_S_S1x12x3 := by decide
  reducesTo_S1x12x3_S_d0_1_2 := by decide
  bcast_S_S1 := by decide
  reducesTo_S1_S_d0 := by decide
  bcast_S_S12x12x12 := by decide
  reducesTo_S12x12x12_S_d0_1_2 := by decide

/-- A value whose absolute value is below infinity is a real number. -/
theorem real_of_below (x : EReal) (h : Ideal.cmp .olt (max x (-x)) (Ideal.ofBits .f32 0x7F800000#32) = 1#1) : ((x.toReal : ℝ) : EReal) = x := by
  rw [Cert.Deform.inf_lit] at h
  induction x using EReal.rec with
  | bot => simp [Ideal.cmp] at h
  | top => simp [Ideal.cmp] at h
  | coe r => rfl

instance : Subsingleton S_.Idx := ⟨fun a b => funext fun k => k.elim0⟩

/-- The precondition gives real numbers in the four arrays. -/
theorem reals [Cert.Pre_finite.Facts] (x0 : FVec Ideal S8x10000x216 .f32) (x1 : FVec Ideal S8x10000x12 .f32) (x2 x3 : FVec Ideal S12x12 .f32)
    (x4 : FVec Ideal S1x12x3 .f32) (x5 : FVec Ideal S1 .f32) (x6 : FVec Ideal S12x12x12 .f32) (x7 : FVec Ideal S12 .f32)
    (x8 : FVec Ideal S12x12 .f32) (x9 : FVec Ideal S10000x12 .f32)
    (h : Cert.Pre_finite.fn (F := Ideal) x0 x1 x2 x3 x4 x5 x6 x7 x8 x9 = fun _ => 1#1) :
    (∀ i, (((x0 i : EReal).toReal : ℝ) : EReal) = x0 i) ∧ (∀ i, (((x4 i : EReal).toReal : ℝ) : EReal) = x4 i)
      ∧ (∀ i, (((x5 i : EReal).toReal : ℝ) : EReal) = x5 i) ∧ (∀ i, (((x6 i : EReal).toReal : ℝ) : EReal) = x6 i) := by
  have h0 := congrFun h (fun k => k.elim0)
  dsimp only [fn, fn_part1] at h0
  obtain ⟨h1, h6⟩ := IntOp.andi_eq_one.1 h0
  obtain ⟨h2, h5⟩ := IntOp.andi_eq_one.1 h1
  obtain ⟨h3, h4⟩ := IntOp.andi_eq_one.1 h2
  exact ⟨fun i => real_of_below _ (Host.reduce_andi_all _ _ _ _ _ h3 i), fun i => real_of_below _ (Host.reduce_andi_all _ _ _ _ _ h4 i),
    fun i => real_of_below _ (Host.reduce_andi_all _ _ _ _ _ h5 i), fun i => real_of_below _ (Host.reduce_andi_all _ _ _ _ _ h6 i)⟩

end Cert.Finite

end
-- ==== Proof.Maps.lean ====
/- What the kernel's first grid step computes: for each of the twelve rows the matrix of interpolation weights, and the two
   blocks of the combined matrix, as the real functions `wt`, `mapT` and `mapN`. -/
module

public import proofs.«01_k».proof.Proof.Gen.KernelIdeal.Skeleton
public import proofs.«01_k».proof.Proof.Scalars
public import Idealize.ShloMosaic.Lib.Pointwise
public import Idealize.ShloMosaic.Lib.Pipeline.Value

@[expose] public section

set_option maxRecDepth 16384

noncomputable section

namespace Cert.KernelIdeal.Block

open Idealize.ShloMosaic Cert.KernelIdeal Cert.KernelIdeal.Gen Cert.Deform

/-- The matrix of weights of one row: entry `k` in column `j` is its weight in the interpolated entry `j`. -/
theorem weights_apply (o : Vec Ideal S1x12 .f32) (k : Fin 18) (j : Fin 12) :
    k0_pay9 (F := Ideal) o (ix2 k j) = ((wt (o (ix2 0 j)) j.val k.val : ℝ) : EReal) := by
  unfold k0_pay9 k0_pay3 k0_pay4
  pointwise
  simp only [three_lit, count_cast _ (show k.val < 2 ^ 31 by omega), count_cast _ (show j.val < 2 ^ 31 by omega), pos_kernel, floor_pos,
    ← EReal.coe_one, ← EReal.coe_sub, ← EReal.coe_add, eq_cast, ← EReal.coe_mul]
  rfl

/-- The matrix that moves a row one to the right. -/
theorem right_apply (n j : Fin 12) :
    k0_pay7 (F := Ideal) (ix2 n j) = (((if (j.val : ℝ) - (n.val : ℝ) = 1 then 1 else 0 : ℝ)) : EReal) := by
  unfold k0_pay7 k0_pay6 k0_pay5
  pointwise
  simp only [count_cast _ (show n.val < 2 ^ 31 by omega), count_cast _ (show j.val < 2 ^ 31 by omega), ← EReal.coe_one, ← EReal.coe_sub, eq_cast]

/-- The matrix that moves a row one to the left. -/
theorem left_apply (n j : Fin 12) :
    k0_pay8 (F := Ideal) (ix2 n j) = (((if (n.val : ℝ) - (j.val : ℝ) = 1 then 1 else 0 : ℝ)) : EReal) := by
  unfold k0_pay8 k0_pay6 k0_pay5
  pointwise
  simp only [count_cast _ (show n.val < 2 ^ 31 by omega), count_cast _ (show j.val < 2 ^ 31 by omega), ← EReal.coe_one, ← EReal.coe_sub, eq_cast]

/-- The block of the combined matrix that one row of the input gives to the first twelve columns. -/
def blockT (o : Vec Ideal S1x12 .f32) (c0 c1 c2 : Vec Ideal S1x1 .f32) : FVec Ideal S18x12 .f32 :=
  k0_pay12 k0_pay7 k0_pay8 (k0_pay9 o) (k0_pay10 c0) (k0_pay11 c1) c2

/-- The block of the combined matrix that one row of the input gives to the last twelve columns. -/
def blockN (o : FVec Ideal S1x12 .f32) (cn : FVec Ideal S12x12 .f32) : FVec Ideal S18x12 .f32 :=
  shapeCast S18x12 (matmul dot_S18x12_S12x12_S18x12_1_0_0_1_n_n (some .fp32) (k0_pay9 o)
    (shapeCast S12x12 (cn : FVec Ideal S12x12 .f32) shapeCasts_S12x12_S12x12 : FVec Ideal S12x12 .f32)
    (constant S18x12 .f32 0x00000000#32)) shapeCasts_S18x12_S18x12

/-- The first block, entry by entry, for finite taps. -/
theorem blockT_apply (offs : Fin 12 → Fin 12 → EReal) (w : Fin 12 → Fin 3 → ℝ) (i : Fin 12) (o : Vec Ideal S1x12 .f32)
    (c0 c1 c2 : Vec Ideal S1x1 .f32) (ho : ∀ j, o (ix2 0 j) = offs i j) (h0 : c0 (ix2 0 0) = ((w i 0 : ℝ) : EReal))
    (h1 : c1 (ix2 0 0) = ((w i 1 : ℝ) : EReal)) (h2 : c2 (ix2 0 0) = ((w i 2 : ℝ) : EReal)) (k : Fin 18) (j : Fin 12) :
    blockT o c0 c1 c2 (ix2 k j) = ((mapT offs w i k j : ℝ) : EReal) := by
  unfold blockT k0_pay12 k0_pay10 k0_pay11
  pointwise
  simp only [weights_apply, right_apply, left_apply, ho, h0, h1, h2, ← EReal.coe_mul, coe_sum, ← EReal.coe_add,
    sum_right (fun n => wt (offs i n) n.val k.val * w i 0), sum_left (fun n => wt (offs i n) n.val k.val * w i 2)]
  rfl

/-- The second block, entry by entry, for finite weights. -/
theorem blockN_apply (offs : Fin 12 → Fin 12 → EReal) (w : Fin 12 → Fin 12 → Fin 12 → ℝ) (i : Fin 12) (o : Vec Ideal S1x12 .f32)
    (cn : Vec Ideal S12x12 .f32) (ho : ∀ j, o (ix2 0 j) = offs i j) (hc : ∀ p j, cn (ix2 p j) = ((w j p i : ℝ) : EReal))
    (k : Fin 18) (j : Fin 12) :
    blockN o cn (ix2 k j) = ((mapN offs w i k j : ℝ) : EReal) := by
  unfold blockN
  pointwise
  simp only [weights_apply, ho, hc, ← EReal.coe_mul, coe_sum]
  rfl

/-- The combined matrix: row `18 i + k` is entry `k` of row `i`, the first twelve columns for the convolution along time, the
    last twelve for the full contraction. -/
def combined (ot on : Fin 12 → Fin 12 → EReal) (wT : Fin 12 → Fin 3 → ℝ) (wN : Fin 12 → Fin 12 → Fin 12 → ℝ) (r : Fin 216)
    (c : Fin 24) : ℝ :=
  if h : c.val < 12 then mapT ot wT ⟨r.val / 18, by omega⟩ ⟨r.val % 18, by omega⟩ ⟨c.val, h⟩
  else mapN on wN ⟨r.val / 18, by omega⟩ ⟨r.val % 18, by omega⟩ ⟨c.val - 12, by omega⟩

/-- The combined matrix as an array. -/
def combinedArr (ot on : Fin 12 → Fin 12 → EReal) (wT : Fin 12 → Fin 3 → ℝ) (wN : Fin 12 → Fin 12 → Fin 12 → ℝ) :
    Vec Ideal S216x24 .f32 := fun y => ((combined ot on wT wN (y 0) (y 1) : ℝ) : EReal)

/-- An entry of its first twelve columns. -/
theorem combined_t (ot on : Fin 12 → Fin 12 → EReal) (wT : Fin 12 → Fin 3 → ℝ) (wN : Fin 12 → Fin 12 → Fin 12 → ℝ) (i : Fin 12)
    (k : Fin 18) (j : Fin 12) (r : Fin 216) (c : Fin 24) (hr : r.val = i.val * 18 + k.val) (hc : c.val = j.val) :
    combined ot on wT wN r c = mapT ot wT i k j := by
  unfold combined
  rw [dif_pos (by omega)]
  congr 1 <;> apply Fin.ext <;> simp only <;> omega

/-- An entry of its last twelve columns. -/
theorem combined_n (ot on : Fin 12 → Fin 12 → EReal) (wT : Fin 12 → Fin 3 → ℝ) (wN : Fin 12 → Fin 12 → Fin 12 → ℝ) (i : Fin 12)
    (k : Fin 18) (j : Fin 12) (r : Fin 216) (c : Fin 24) (hr : r.val = i.val * 18 + k.val) (hc : c.val = 12 + j.val) :
    combined ot on wT wN r c = mapN on wN i k j := by
  unfold combined
  rw [dif_neg (by omega)]
  congr 1 <;> apply Fin.ext <;> simp only <;> omega

variable (x3 x4 : Vec Ideal S12x12 .f32) (x5 : Vec Ideal S12x3 .f32) (x6 : Vec Ideal S144x12 .f32)
  (wT : Fin 12 → Fin 3 → ℝ) (wN : Fin 12 → Fin 12 → Fin 12 → ℝ)

/-- What the first grid step stores at rows `18 i …` of the first twelve columns is that part of the combined matrix. -/
theorem pieceT (h5 : ∀ i t, x5 (ix2 i t) = ((wT i t : ℝ) : EReal)) (i : Fin 12) (b0 b1 b2 b3 b4)
    (x : S18x12.Idx) :
    blockT (View.ld x3 (Rect.unit ![i.val, 0] S1x12.size b0)) (View.ld x5 (Rect.unit ![i.val, 0] S1x1.size b1))
        (View.ld x5 (Rect.unit ![i.val, 1] S1x1.size b2)) (View.ld x5 (Rect.unit ![i.val, 2] S1x1.size b3)) x
      = combinedArr (fun a b => x3 (ix2 a b)) (fun a b => x4 (ix2 a b)) wT wN
          ((Rect.unit (s := S216x24) ![i.val * 18, 0] S18x12.size b4).emb x) := by
  idx_vars x
  rw [blockT_apply (fun a b => x3 (ix2 a b)) wT i]
  · refine congrArg _ (combined_t _ _ _ _ i x0 x1 _ _ ?_ ?_).symm
    · show i.val * 18 + 1 * x0.val = _; omega
    · show 0 + 1 * x1.val = _; omega
  · intro j
    exact congrArg x3 (funext fun a => Fin.ext (by match a with | 0 => show i.val + 1 * 0 = i.val; omega | 1 => show 0 + 1 * j.val = j.val; omega))
  · rw [← h5]
    exact congrArg x5 (funext fun a => Fin.ext (by match a with | 0 => show i.val + 1 * 0 = i.val; omega | 1 => rfl))
  · rw [← h5]
    exact congrArg x5 (funext fun a => Fin.ext (by match a with | 0 => show i.val + 1 * 0 = i.val; omega | 1 => rfl))
  · rw [← h5]
    exact congrArg x5 (funext fun a => Fin.ext (by match a with | 0 => show i.val + 1 * 0 = i.val; omega | 1 => rfl))

/-- What the first grid step stores at rows `18 i …` of the last twelve columns is that part of the combined matrix. -/
theorem pieceN (h6 : ∀ (i p j : Fin 12), x6 (ix2 ⟨i.val * 12 + p.val, by omega⟩ j) = ((wN j p i : ℝ) : EReal)) (i : Fin 12) (b0 b1 b4)
    (x : S18x12.Idx) :
    blockN (View.ld x4 (Rect.unit ![i.val, 0] S1x12.size b0)) (View.ld x6 (Rect.unit ![i.val * 12, 0] S12x12.size b1)) x
      = combinedArr (fun a b => x3 (ix2 a b)) (fun a b => x4 (ix2 a b)) wT wN
          ((Rect.unit (s := S216x24) ![i.val * 18, 12] S18x12.size b4).emb x) := by
  idx_vars x
  rw [blockN_apply (fun a b => x4 (ix2 a b)) wN i]
  · refine congrArg _ (combined_n _ _ _ _ i x0 x1 _ _ ?_ ?_).symm
    · show i.val * 18 + 1 * x0.val = _; omega
    · show 12 + 1 * x1.val = _; omega
  · intro j
    exact congrArg x4 (funext fun a => Fin.ext (by match a with | 0 => show i.val + 1 * 0 = i.val; omega | 1 => show 0 + 1 * j.val = j.val; omega))
  · intro p j
    rw [← h6]
    exact congrArg x6 (funext fun a => Fin.ext (by match a with | 0 => show i.val * 12 + 1 * p.val = i.val * 12 + p.val; omega | 1 => show 0 + 1 * j.val = j.val; omega))

end Cert.KernelIdeal.Block

end
-- ==== Proof.Step.lean ====
/- What one grid step of the kernel leaves behind: the first step fills the scratch with the combined matrix, and every step
   writes the gated mix of the two halves of `input block · combined matrix`. -/
module

public import proofs.«01_k».proof.Proof.Gen.KernelIdeal.Value
public import proofs.«01_k».proof.Proof.Maps

@[expose] public section

set_option maxRecDepth 16384

noncomputable section

namespace Cert.KernelIdeal.Block

open Idealize.ShloMosaic Cert.KernelIdeal Cert.KernelIdeal.Gen Cert.Deform

variable (c : Dev nD) (i : grid0.Coords) (arg1 : Memref sig .tc .vmem S1x10000x216 .f32) (harg1 : arg1.IsWhole)
  (arg2 : Memref sig .tc .vmem S1x10000x12 .f32) (harg2 : arg2.IsWhole) (arg3 : Memref sig .tc .vmem S10000x12 .f32) (harg3 : arg3.IsWhole)
  (arg4 : Memref sig .tc .vmem S12x12 .f32) (harg4 : arg4.IsWhole) (arg5 : Memref sig .tc .vmem S12x12 .f32) (harg5 : arg5.IsWhole)
  (arg6 : Memref sig .tc .vmem S12x3 .f32) (harg6 : arg6.IsWhole) (arg7 : Memref sig .tc .vmem S144x12 .f32) (harg7 : arg7.IsWhole)
  (arg8 : Memref sig .tc .vmem S2x12 .f32) (harg8 : arg8.IsWhole) (arg9 : Memref sig .tc .vmem S12x12 .f32) (harg9 : arg9.IsWhole)
  (arg10 : Memref sig .tc .vmem S1x10000x12 .f32) (harg10 : arg10.IsWhole) (arg11 : Memref sig .tc .vmem S216x24 .f32) (harg11 : arg11.IsWhole)

  (x0 : Vec Ideal S1x10000x216 .f32) (x1 : Vec Ideal S1x10000x12 .f32) (x2 : Vec Ideal S10000x12 .f32) (x3 x4 : Vec Ideal S12x12 .f32)
  (x5 : Vec Ideal S12x3 .f32) (x6 : Vec Ideal S144x12 .f32) (x7 : Vec Ideal S2x12 .f32) (x8 : Vec Ideal S12x12 .f32)
  (wT : Fin 12 → Fin 3 → ℝ) (wN : Fin 12 → Fin 12 → Fin 12 → ℝ)

/-- The combined matrix built from the step's own blocks. -/
abbrev matrixOf : Vec Ideal S216x24 .f32 := combinedArr (fun a b => x3 (ix2 a b)) (fun a b => x4 (ix2 a b)) wT wN

/-- The stores of the first step into the scratch spell the combined matrix. -/
theorem stores_scratch (hc0 : cond0_0 i) (h5 : ∀ i t, x5 (ix2 i t) = ((wT i t : ℝ) : EReal))
    (h6 : ∀ (i p j : Fin 12), x6 (ix2 ⟨i.val * 12 + p.val, by omega⟩ j) = ((wN j p i : ℝ) : EReal)) :
    View.canon (kernelRun0_A (F := Ideal) c i arg1 harg1 arg2 harg2 arg3 harg3 arg4 harg4 arg5 harg5 arg6 harg6 arg7 harg7 arg8 harg8 arg9 harg9 arg10 harg10
      arg11 harg11 hc0 x0 x1 x2 x3 x4 x5 x6 x7 x8).2.1
      = matrixOf x3 x4 wT wN := by
  funext y
  refine View.canon_apply_of_pieces (matrixOf x3 x4 wT wN) _ ?_ y (scover0_A_0 c i arg1 harg1 arg2 harg2 arg3 harg3 arg4 harg4 arg5 harg5 arg6 harg6 arg7 harg7 arg8 harg8 arg9 harg9 arg10 harg10
      arg11 harg11 hc0 x0 x1 x2 x3 x4 x5 x6 x7 x8 y)
  unfold kernelRun0_A
  dsimp only
  sl_unfold_words
  simp only [View.readAt_eq_ld, harg4.read_unread, harg5.read_unread, harg6.read_unread, harg7.read_unread, List.forall_mem_cons,
    List.not_mem_nil, false_imp_iff, implies_true, and_true]
  exact ⟨fun x => pieceN x3 x4 x6 wT wN h6 11 _ _ _ x,
    fun x => pieceT x3 x4 x5 wT wN h5 11 _ _ _ _ _ x,
    fun x => pieceN x3 x4 x6 wT wN h6 10 _ _ _ x,
    fun x => pieceT x3 x4 x5 wT wN h5 10 _ _ _ _ _ x,
    fun x => pieceN x3 x4 x6 wT wN h6 9 _ _ _ x,
    fun x => pieceT x3 x4 x5 wT wN h5 9 _ _ _ _ _ x,
    fun x => pieceN x3 x4 x6 wT wN h6 8 _ _ _ x,
    fun x => pieceT x3 x4 x5 wT wN h5 8 _ _ _ _ _ x,
    fun x => pieceN x3 x4 x6 wT wN h6 7 _ _ _ x,
    fun x => pieceT x3 x4 x5 wT wN h5 7 _ _ _ _ _ x,
    fun x => pieceN x3 x4 x6 wT wN h6 6 _ _ _ x,
    fun x => pieceT x3 x4 x5 wT wN h5 6 _ _ _ _ _ x,
    fun x => pieceN x3 x4 x6 wT wN h6 5 _ _ _ x,
    fun x => pieceT x3 x4 x5 wT wN h5 5 _ _ _ _ _ x,
    fun x => pieceN x3 x4 x6 wT wN h6 4 _ _ _ x,
    fun x => pieceT x3 x4 x5 wT wN h5 4 _ _ _ _ _ x,
    fun x => pieceN x3 x4 x6 wT wN h6 3 _ _ _ x,
    fun x => pieceT x3 x4 x5 wT wN h5 3 _ _ _ _ _ x,
    fun x => pieceN x3 x4 x6 wT wN h6 2 _ _ _ x,
    fun x => pieceT x3 x4 x5 wT wN h5 2 _ _ _ _ _ x,
    fun x => pieceN x3 x4 x6 wT wN h6 1 _ _ _ x,
    fun x => pieceT x3 x4 x5 wT wN h5 1 _ _ _ _ _ x,
    fun x => pieceN x3 x4 x6 wT wN h6 0 _ _ _ x,
    fun x => pieceT x3 x4 x5 wT wN h5 0 _ _ _ _ _ x⟩

/-- The first step leaves the combined matrix in the scratch. -/
theorem scratch_first (hc0 : cond0_0 i) (h5 : ∀ i t, x5 (ix2 i t) = ((wT i t : ℝ) : EReal))
    (h6 : ∀ (i p j : Fin 12), x6 (ix2 ⟨i.val * 12 + p.val, by omega⟩ j) = ((wN j p i : ℝ) : EReal)) :
    sout0_A_0 (F := Ideal) c i arg1 harg1 arg2 harg2 arg3 harg3 arg4 harg4 arg5 harg5 arg6 harg6 arg7 harg7 arg8 harg8 arg9 harg9 arg10 harg10
      arg11 harg11 hc0 x0 x1 x2 x3 x4 x5 x6 x7 x8 = matrixOf x3 x4 wT wN := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10
      arg11 harg11 hc0 x0 x1 x2 x3 x4 x5 x6 x7 x8)]
  exact stores_scratch c i arg1 harg1 arg2 harg2 arg3 harg3 arg4 harg4 arg5 harg5 arg6 harg6 arg7 harg7 arg8 harg8 arg9 harg9 arg10 harg10
      arg11 harg11 x0 x1 x2 x3 x4 x5 x6 x7 x8 wT wN hc0 h5 h6

/-- What a step writes into its block of the result, given the matrix in the scratch. -/
def mixed (M : Vec Ideal S216x24 .f32) : Vec Ideal S1x10000x12 .f32 :=
  k0_pay2 (F := Ideal) x0 M (View.ld x7 (Rect.unit (s := S2x12) ![0, 0] S1x12.size inb_S2x12_S1x12_0_0))
    (View.ld x7 (Rect.unit (s := S2x12) ![1, 0] S1x12.size inb_S2x12_S1x12_1_0)) x1 x8 x2

/-- Every later step writes the mix computed with the scratch it finds. -/
theorem out_later (hc0 : ¬cond0_0 i) (xs0 : Vec Ideal S216x24 .f32) :
    out0_B_9 (F := Ideal) c i arg1 harg1 arg2 harg2 arg3 harg3 arg4 harg4 arg5 harg5 arg6 harg6 arg7 harg7 arg8 harg8 arg9 harg9 arg10 harg10
      arg11 harg11 hc0 x0 x1 x2 x3 x4 x5 x6 x7 x8 xs0 = mixed x0 x1 x2 x7 x8 xs0 := by
  have hz2 : (![0, 0] : Fin 2 → ℕ) = fun _ => 0 := by decide
  have hz3 : (![0, 0, 0] : Fin 3 → ℕ) = fun _ => 0 := by decide
  unfold out0_B_9
  rw [View.read_writes_eq_canon _ _ _ (cover0_B_9 c i arg1 harg1 arg2 harg2 arg3 harg3 arg4 harg4 arg5 harg5 arg6 harg6 arg7 harg7 arg8 harg8 arg9 harg9 arg10 harg10
      arg11 harg11 hc0 x0 x1 x2 x3 x4 x5 x6 x7 x8 xs0)]
  unfold kernelRun0_B
  dsimp only
  sl_unfold_words
  rw [View.canon_unit_zero hz3]
  simp only [View.readAt_eq_ld, harg1.read_unread, harg2.read_unread, harg3.read_unread, harg8.read_unread, harg9.read_unread,
    harg11.read_unread,    View.ld_unit_zero (S := S1x10000x216) hz3, View.ld_unit_zero (S := S1x10000x12) hz3,
    View.ld_unit_zero (S := S216x24) hz2, View.ld_unit_zero (S := S10000x12) hz2, View.ld_unit_zero (S := S12x12) hz2]
  rfl

/-- The first step writes the mix computed with the combined matrix. -/
theorem out_first (hc0 : cond0_0 i) (h5 : ∀ i t, x5 (ix2 i t) = ((wT i t : ℝ) : EReal))
    (h6 : ∀ (i p j : Fin 12), x6 (ix2 ⟨i.val * 12 + p.val, by omega⟩ j) = ((wN j p i : ℝ) : EReal)) :
    out0_A_9 (F := Ideal) c i arg1 harg1 arg2 harg2 arg3 harg3 arg4 harg4 arg5 harg5 arg6 harg6 arg7 harg7 arg8 harg8 arg9 harg9 arg10 harg10
      arg11 harg11 hc0 x0 x1 x2 x3 x4 x5 x6 x7 x8 = mixed x0 x1 x2 x7 x8 (matrixOf x3 x4 wT wN) := by
  have hz2 : (![0, 0] : Fin 2 → ℕ) = fun _ => 0 := by decide
  have hz3 : (![0, 0, 0] : Fin 3 → ℕ) = fun _ => 0 := by decide
  unfold out0_A_9
  rw [View.read_writes_eq_canon _ _ _ (cover0_A_9 c i arg1 harg1 arg2 harg2 arg3 harg3 arg4 harg4 arg5 harg5 arg6 harg6 arg7 harg7 arg8 harg8 arg9 harg9 arg10 harg10
      arg11 harg11 hc0 x0 x1 x2 x3 x4 x5 x6 x7 x8)]
  rw [← stores_scratch c i arg1 harg1 arg2 harg2 arg3 harg3 arg4 harg4 arg5 harg5 arg6 harg6 arg7 harg7 arg8 harg8 arg9 harg9 arg10 harg10
      arg11 harg11 x0 x1 x2 x3 x4 x5 x6 x7 x8 wT wN hc0 h5 h6]
  unfold kernelRun0_A
  dsimp only
  have hload : kernelRun0_A.sl.v5 (F := Ideal) c arg4 harg4 arg5 harg5 arg6 harg6 arg7 harg7 arg11 x3 x4 x5 x6
      = View.canon (kernelRun0_A.sl.HS0_24 (F := Ideal) c arg4 harg4 arg5 harg5 arg6 harg6 arg7 harg7 x3 x4 x5 x6) := by
    unfold kernelRun0_A.sl.v5
    exact (View.readCov_eq_canon _ _ _ (fun j => scover0_A_0 c i arg1 harg1 arg2 harg2 arg3 harg3 arg4 harg4 arg5 harg5 arg6 harg6 arg7 harg7 arg8 harg8 arg9 harg9 arg10 harg10
      arg11 harg11 hc0 x0 x1 x2 x3 x4 x5 x6 x7 x8 _)).trans
      (View.ld_unit_zero (S := S216x24) hz2 _ _)
  rw [hload]
  rw [View.canon_unit_zero hz3]
  simp only [View.readAt_eq_ld, harg1.read_unread, harg2.read_unread, harg3.read_unread, harg8.read_unread, harg9.read_unread,
    View.ld_unit_zero (S := S1x10000x216) hz3, View.ld_unit_zero (S := S1x10000x12) hz3,
    View.ld_unit_zero (S := S10000x12) hz2, View.ld_unit_zero (S := S12x12) hz2]
  rfl

end Cert.KernelIdeal.Block

end
-- ==== Proof.Array.lean ====
/- The array the kernel leaves: at `(b, n, o)` the gated mix of the two halves of `input row · combined matrix`, with the
   combined matrix built once from the offsets and the convolution weights. -/
module

public import proofs.«01_k».proof.Proof.Step
public import Idealize.ShloMosaic.Lib.StableHlo.ReadAt

@[expose] public section

set_option maxRecDepth 16384

noncomputable section

namespace Cert.KernelIdeal.Block

open Idealize.ShloMosaic Idealize.ShloMosaic.TcCoe Cert.KernelIdeal Cert.KernelIdeal.Gen Cert.Deform

variable (m : (ℓ : Loc nD τ sig) → Buf (Elt Ideal) ℓ) (c : Dev nD)

/-- The value of a step, read at an entry. -/
theorem mixed_apply (x0 : Vec Ideal S1x10000x216 .f32) (x1 : Vec Ideal S1x10000x12 .f32) (x2 : Vec Ideal S10000x12 .f32)
    (x7 : Vec Ideal S2x12 .f32) (x8 : Vec Ideal S12x12 .f32) (M : Vec Ideal S216x24 .f32) (n : Fin 10000) (j : Fin 12) :
    mixed x0 x1 x2 x7 x8 M (ix3 0 n j)
      = (∑ q, x0 (ix3 0 n q) * M (ix2 q ⟨j.val, by omega⟩) + x7 (ix2 0 j))
        + Ideal.logistic (∑ q, x1 (ix3 0 n q) * x8 (ix2 q j) + x2 (ix2 n j))
          * ((∑ q, x0 (ix3 0 n q) * M (ix2 q ⟨12 + j.val, by omega⟩) + x7 (ix2 1 j))
            - (∑ q, x0 (ix3 0 n q) * M (ix2 q ⟨j.val, by omega⟩) + x7 (ix2 0 j))) := by
  unfold mixed k0_pay2
  pointwise

/-! ## The arguments, as arrays -/

/-- The input. -/
abbrev inp : Vec Ideal S8x10000x216 .f32 := m ((c : Thread nD τ).loc main_arg0)
/-- The control array. -/
abbrev ctrl : Vec Ideal S8x10000x12 .f32 := m ((c : Thread nD τ).loc main_arg1)
/-- The first offsets. -/
abbrev offT : Vec Ideal S12x12 .f32 := m ((c : Thread nD τ).loc main_arg2)
/-- The second offsets. -/
abbrev offN : Vec Ideal S12x12 .f32 := m ((c : Thread nD τ).loc main_arg3)
/-- The taps of the first convolution. -/
abbrev taps : Vec Ideal S1x12x3 .f32 := m ((c : Thread nD τ).loc main_arg4)
/-- Its bias. -/
abbrev biasT : Vec Ideal S1 .f32 := m ((c : Thread nD τ).loc main_arg5)
/-- The weights of the second convolution. -/
abbrev weights : Vec Ideal S12x12x12 .f32 := m ((c : Thread nD τ).loc main_arg6)
/-- Its bias. -/
abbrev biasN : Vec Ideal S12 .f32 := m ((c : Thread nD τ).loc main_arg7)
/-- The gate's matrix. -/
abbrev gateW : Vec Ideal S12x12 .f32 := m ((c : Thread nD τ).loc main_arg8)
/-- The gate's bias. -/
abbrev gateB : Vec Ideal S10000x12 .f32 := m ((c : Thread nD τ).loc main_arg9)

/-! ## The blocks the steps read -/

/-- The block numbers of the two inputs that move with the grid. -/
theorem index_moving : ∀ t : Fin grid0.N, win0_0.index t = ![t.val, 0, 0] ∧ win0_1.index t = ![t.val, 0, 0] := by decide +kernel

/-- The other inputs are one block each. -/
theorem index_still : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] := by decide +kernel

/-- The input block of step `t` is row `t` of the batch. -/
theorem block_input (t : Fin cfg0.N) (n : Fin 10000) (q : Fin 216) :
    (iblk m c 0 t : Vec Ideal S1x10000x216 .f32) (ix3 0 n q)
      = inp m c (ix3 ⟨t.val, lt_of_lt_of_eq t.isLt N_0⟩ n q) := by
  have hi := (index_moving t).1
  have h0 : win0_0.index t (0 : Fin 3) = t.val := congrFun hi 0
  have h1 : win0_0.index t (1 : Fin 3) = 0 := congrFun hi 1
  have h2 : win0_0.index t (2 : Fin 3) = 0 := congrFun hi 2
  unfold inp
  rw [← V_main_arg0 m c]
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 10000 + 1 * n.val = n.val; omega
  | ⟨2, _⟩ => show win0_0.index t (2 : Fin 3) * 216 + 1 * q.val = q.val; omega

/-- The control block of step `t` is row `t` of the batch. -/
theorem block_ctrl (t : Fin cfg0.N) (n : Fin 10000) (q : Fin 12) :
    (iblk m c 1 t : Vec Ideal S1x10000x12 .f32) (ix3 0 n q)
      = ctrl m c (ix3 ⟨t.val, lt_of_lt_of_eq t.isLt N_0⟩ n q) := by
  have hi := (index_moving t).2
  have h0 : win0_1.index t (0 : Fin 3) = t.val := congrFun hi 0
  have h1 : win0_1.index t (1 : Fin 3) = 0 := congrFun hi 1
  have h2 : win0_1.index t (2 : Fin 3) = 0 := congrFun hi 2
  unfold ctrl
  rw [← V_main_arg1 m c]
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 10000 + 1 * n.val = n.val; omega
  | ⟨2, _⟩ => show win0_1.index t (2 : Fin 3) * 12 + 1 * q.val = q.val; omega

/-- A block of a whole array read at block number zero is the array. -/
theorem block_param (t : Fin cfg0.N) : (iblk m c 2 t : Vec Ideal S10000x12 .f32) = gateB m c := by
  have hi := (index_still t).1
  have h0 : win0_2.index t (0 : Fin 2) = 0 := congrFun hi 0
  have h1 : win0_2.index t (1 : Fin 2) = 0 := congrFun hi 1
  unfold gateB
  rw [← V_main_arg9 m c]
  funext y
  refine congrArg (V m c main_arg9) (funext fun a => Fin.ext ?_)
  match a with
  | ⟨0, _⟩ => show win0_2.index t (0 : Fin 2) * 10000 + 1 * (y 0).val = (y 0).val; omega
  | ⟨1, _⟩ => show win0_2.index t (1 : Fin 2) * 12 + 1 * (y 1).val = (y 1).val; omega

/-- The first offsets. -/
theorem block_offset_t (t : Fin cfg0.N) : (iblk m c 3 t : Vec Ideal S12x12 .f32) = offT m c := by
  have hi := (index_still t).2.1
  have h0 : win0_3.index t (0 : Fin 2) = 0 := congrFun hi 0
  have h1 : win0_3.index t (1 : Fin 2) = 0 := congrFun hi 1
  unfold offT
  rw [← V_main_arg2 m c]
  funext y
  refine congrArg (V m c main_arg2) (funext fun a => Fin.ext ?_)
  match a with
  | ⟨0, _⟩ => show win0_3.index t (0 : Fin 2) * 12 + 1 * (y 0).val = (y 0).val; omega
  | ⟨1, _⟩ => show win0_3.index t (1 : Fin 2) * 12 + 1 * (y 1).val = (y 1).val; omega

/-- The second offsets. -/
theorem block_offset_n (t : Fin cfg0.N) : (iblk m c 4 t : Vec Ideal S12x12 .f32) = offN m c := by
  have hi := (index_still t).2.2.1
  have h0 : win0_4.index t (0 : Fin 2) = 0 := congrFun hi 0
  have h1 : win0_4.index t (1 : Fin 2) = 0 := congrFun hi 1
  unfold offN
  rw [← V_main_arg3 m c]
  funext y
  refine congrArg (V m c main_arg3) (funext fun a => Fin.ext ?_)
  match a with
  | ⟨0, _⟩ => show win0_4.index t (0 : Fin 2) * 12 + 1 * (y 0).val = (y 0).val; omega
  | ⟨1, _⟩ => show win0_4.index t (1 : Fin 2) * 12 + 1 * (y 1).val = (y 1).val; omega

/-- The taps, reshaped by the host. -/
theorem block_taps (t : Fin cfg0.N) : (iblk m c 5 t : Vec Ideal S12x3 .f32) = V m c main_v2 := by
  have hi := (index_still t).2.2.2.1
  have h0 : win0_5.index t (0 : Fin 2) = 0 := congrFun hi 0
  have h1 : win0_5.index t (1 : Fin 2) = 0 := congrFun hi 1
  funext y
  refine congrArg (V m c main_v2) (funext fun a => Fin.ext ?_)
  match a with
  | ⟨0, _⟩ => show win0_5.index t (0 : Fin 2) * 12 + 1 * (y 0).val = (y 0).val; omega
  | ⟨1, _⟩ => show win0_5.index t (1 : Fin 2) * 3 + 1 * (y 1).val = (y 1).val; omega

/-- The full weights, transposed and reshaped by the host. -/
theorem block_weights (t : Fin cfg0.N) : (iblk m c 6 t : Vec Ideal S144x12 .f32) = V m c main_v1 := by
  have hi := (index_still t).2.2.2.2.1
  have h0 : win0_6.index t (0 : Fin 2) = 0 := congrFun hi 0
  have h1 : win0_6.index t (1 : Fin 2) = 0 := congrFun hi 1
  funext y
  refine congrArg (V m c main_v1) (funext fun a => Fin.ext ?_)
  match a with
  | ⟨0, _⟩ => show win0_6.index t (0 : Fin 2) * 144 + 1 * (y 0).val = (y 0).val; omega
  | ⟨1, _⟩ => show win0_6.index t (1 : Fin 2) * 12 + 1 * (y 1).val = (y 1).val; omega

/-- The two biases, stacked by the host. -/
theorem block_biases (t : Fin cfg0.N) : (iblk m c 7 t : Vec Ideal S2x12 .f32) = V m c main_v6 := by
  have hi := (index_still t).2.2.2.2.2.1
  have h0 : win0_7.index t (0 : Fin 2) = 0 := congrFun hi 0
  have h1 : win0_7.index t (1 : Fin 2) = 0 := congrFun hi 1
  funext y
  refine congrArg (V m c main_v6) (funext fun a => Fin.ext ?_)
  match a with
  | ⟨0, _⟩ => show win0_7.index t (0 : Fin 2) * 2 + 1 * (y 0).val = (y 0).val; omega
  | ⟨1, _⟩ => show win0_7.index t (1 : Fin 2) * 12 + 1 * (y 1).val = (y 1).val; omega

/-- The gate's matrix. -/
theorem block_gate (t : Fin cfg0.N) : (iblk m c 8 t : Vec Ideal S12x12 .f32) = gateW m c := by
  have hi := (index_still t).2.2.2.2.2.2
  have h0 : win0_8.index t (0 : Fin 2) = 0 := congrFun hi 0
  have h1 : win0_8.index t (1 : Fin 2) = 0 := congrFun hi 1
  unfold gateW
  rw [← V_main_arg8 m c]
  funext y
  refine congrArg (V m c main_arg8) (funext fun a => Fin.ext ?_)
  match a with
  | ⟨0, _⟩ => show win0_8.index t (0 : Fin 2) * 12 + 1 * (y 0).val = (y 0).val; omega
  | ⟨1, _⟩ => show win0_8.index t (1 : Fin 2) * 12 + 1 * (y 1).val = (y 1).val; omega

/-! ## The operands the host prepares -/

/-- Tap `t` of row `i`. -/
theorem host_taps (i : Fin 12) (t : Fin 3) :
    (V m c main_v2 : Vec Ideal S12x3 .f32) (ix2 i t) = taps m c (ix3 0 i t) := by
  unfold V hostOps0
  after_reads_at

/-- Weight `(o, p, i)` lies at row `12 i + p`, column `o`. -/
theorem host_weights (i p o : Fin 12) :
    (V m c main_v1 : Vec Ideal S144x12 .f32) (ix2 ⟨i.val * 12 + p.val, by omega⟩ o) = weights m c (ix3 o p i) := by
  unfold V hostOps0
  after_reads_at

/-- The first bias, the same for every column. -/
theorem host_bias_t (o : Fin 12) :
    (V m c main_v6 : Vec Ideal S2x12 .f32) (ix2 0 o) = biasT m c (ix1 0) := by
  unfold V hostOps0
  after_reads_at

/-- The second bias. -/
theorem host_bias_n (o : Fin 12) :
    (V m c main_v6 : Vec Ideal S2x12 .f32) (ix2 1 o) = biasN m c (ix1 o) := by
  unfold V hostOps0
  after_reads_at

/-! ## The steps -/

variable (wT : Fin 12 → Fin 3 → ℝ) (wN : Fin 12 → Fin 12 → Fin 12 → ℝ)

/-- The combined matrix of the launched arguments. -/
abbrev matrix : Vec Ideal S216x24 .f32 :=
  combinedArr (fun a b => offT m c (ix2 a b)) (fun a b => offN m c (ix2 a b)) wT wN

/-- The first step leaves the combined matrix in the scratch and the mix computed with it in its block; a later step that
    finds that matrix keeps it and writes the mix computed with it. -/
theorem step_value (hT : ∀ i t, taps m c (ix3 0 i t) = ((wT i t : ℝ) : EReal))
    (hN : ∀ o p i, weights m c (ix3 o p i) = ((wN o p i : ℝ) : EReal)) (t : Fin cfg0.N)
    (acc : Vec Ideal S1x10000x12 .f32 × Vec Ideal S216x24 .f32) (hacc : ¬t.val % 8 = 0 → acc.2 = matrix m c wT wN) :
    Value.stAt0 m c t.val t.isLt acc
      = (mixed (iblk m c 0 t) (iblk m c 1 t) (iblk m c 2 t) (iblk m c 7 t) (iblk m c 8 t) (matrix m c wT wN), matrix m c wT wN) := by
  by_cases h0 : t.val % 8 = 0
  · have h5 : ∀ i k, (iblk m c 5 t : Vec Ideal S12x3 .f32) (ix2 i k) = ((wT i k : ℝ) : EReal) := fun i k => by
      rw [block_taps, host_taps, hT]
    have h6 : ∀ (i p j : Fin 12), (iblk m c 6 t : Vec Ideal S144x12 .f32) (ix2 ⟨i.val * 12 + p.val, by omega⟩ j) = ((wN j p i : ℝ) : EReal) :=
      fun i p j => by rw [block_weights, host_weights, hN]
    have hM : matrixOf (iblk m c 3 t) (iblk m c 4 t) wT wN = matrix m c wT wN := by
      rw [block_offset_t, block_offset_n]
    rw [Value.stAt0_A m c t acc h0]
    refine congrArg₂ Prod.mk ?_ ?_
    · exact (out_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t)
      (iblk m c 7 t) (iblk m c 8 t) wT wN ((hcond0_0 t).mpr h0) h5 h6).trans (congrArg _ hM)
    · exact (scratch_first c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t)
      (iblk m c 7 t) (iblk m c 8 t) wT wN ((hcond0_0 t).mpr h0) h5 h6).trans hM
  · rw [Value.stAt0_B m c t acc h0, hacc h0]
    exact congrArg₂ Prod.mk (out_later c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      (iblk m c 0 t) (iblk m c 1 t) (iblk m c 2 t) (iblk m c 3 t) (iblk m c 4 t) (iblk m c 5 t) (iblk m c 6 t)
      (iblk m c 7 t) (iblk m c 8 t) (fun h => h0 ((hcond0_0 t).mp h)) _) rfl

/-- What the result's block and the scratch hold after step `n`. -/
theorem outs_value (hT : ∀ i t, taps m c (ix3 0 i t) = ((wT i t : ℝ) : EReal))
    (hN : ∀ o p i, weights m c (ix3 o p i) = ((wN o p i : ℝ) : EReal)) : ∀ (n : ℕ) (h : n < cfg0.N),
    outsAt0 m c n h
      = (mixed (iblk m c 0 ⟨n, h⟩) (iblk m c 1 ⟨n, h⟩) (iblk m c 2 ⟨n, h⟩) (iblk m c 7 ⟨n, h⟩) (iblk m c 8 ⟨n, h⟩) (matrix m c wT wN),
        matrix m c wT wN)
  | 0, h => (Value.outsAt0_zero m c h).trans (step_value m c wT wN hT hN ⟨0, h⟩ _ (fun hn => absurd rfl hn))
  | n + 1, h => (Value.outsAt0_succ m c n h).trans (step_value m c wT wN hT hN ⟨n + 1, h⟩ _ (fun _ => by
      rw [outs_value hT hN n (Nat.lt_of_succ_lt h)]))

/-- THE ARRAY AFTER THE RUN: at `(b, n, o)` the first convolution plus the gate times the difference of the two. -/
theorem array_value (hT : ∀ i t, taps m c (ix3 0 i t) = ((wT i t : ℝ) : EReal))
    (hN : ∀ o p i, weights m c (ix3 o p i) = ((wN o p i : ℝ) : EReal)) (b : Fin 8) (n : Fin 10000) (j : Fin 12) :
    Value.G9 m c (ix3 b n j)
      = (∑ q, inp m c (ix3 b n q) * matrix m c wT wN (ix2 q ⟨j.val, by omega⟩)
          + biasT m c (ix1 0))
        + Ideal.logistic (∑ q, ctrl m c (ix3 b n q) * gateW m c (ix2 q j)
              + gateB m c (ix2 n j))
          * ((∑ q, inp m c (ix3 b n q) * matrix m c wT wN (ix2 q ⟨12 + j.val, by omega⟩)
                + biasN m c (ix1 j))
            - (∑ q, inp m c (ix3 b n q) * matrix m c wT wN (ix2 q ⟨j.val, by omega⟩)
                + biasT m c (ix1 0))) := by
  have hp : Value.pt9Of (ix3 b n j) = b.val := by
    show 1 * (b.val / 1 - 0) + 1 * (n.val / 10000 - 0) + 1 * (j.val / 12 - 0) = b.val
    have := n.isLt; have := j.isLt; omega
  have hb : b.val < cfg0.N := lt_of_lt_of_eq b.isLt (show cfg0.N = 8 from N_0).symm
  have hl : Value.loc9Of (ix3 b n j) = ix3 0 n j := by
    funext a
    apply Fin.ext
    match a with
    | ⟨0, _⟩ => show b.val % 1 = 0; omega
    | ⟨1, _⟩ => show n.val % 10000 = n.val; have := n.isLt; omega
    | ⟨2, _⟩ => show j.val % 12 = j.val; have := j.isLt; omega
  unfold Value.G9
  rw [dif_pos (by rw [hp]; exact hb), Value.fold0_congr m c _ _ b.val (by omega) hp, ← Value.outsAt0_sweep m c b.val hb,
    outs_value m c wT wN hT hN b.val hb, hl]
  dsimp only
  rw [mixed_apply]
  have e0 : (iblk m c 7 ⟨b.val, hb⟩ : Vec Ideal S2x12 .f32) (ix2 0 j) = biasT m c (ix1 0) := by rw [block_biases]; exact host_bias_t m c j
  have e1 : (iblk m c 7 ⟨b.val, hb⟩ : Vec Ideal S2x12 .f32) (ix2 1 j) = biasN m c (ix1 j) := by rw [block_biases]; exact host_bias_n m c j
  rw [e0, e1]
  simp only [block_input, block_ctrl, block_param, block_gate]

end Cert.KernelIdeal.Block

end
-- ==== Proof.RefTake.lean ====
/- The reference's gather along the last axis with its bounds check: an index word that names one of the eighteen entries
   reads that entry. -/
module

public import proofs.«01_k».proof.Proof.Gen.ReferenceIdeal.Read
public import Idealize.ShloMosaic.Lib.Pointwise
public import Idealize.ShloMosaic.Lib.ReduceAll
public import Idealize.ShloMosaic.Lib.WordCmp

@[expose] public section

set_option maxRecDepth 16384

noncomputable section

namespace Cert.ReferenceIdeal.Deform

open Idealize.ShloMosaic Idealize.ShloMosaic.TcCoe Cert.ReferenceIdeal Cert.ReferenceIdeal.Gen Cert.ReferenceIdeal.Read

/-- The index words after a negative one is moved up by the length of the row. -/
def wrapped (K : IVec S80000x12x12 32) : IVec S80000x12x12x1 32 :=
  shapeCast _ (select (cmpi .slt K (val_main_call0_v0 (F := Ideal))) (addi K (val_main_call0_v2 (F := Ideal))) K)
    shapeCasts_S80000x12x12_S80000x12x12x1

/-- Whether each index word names an entry of the row. -/
def inside (K : IVec S80000x12x12 32) : IVec S80000x12x12x1 1 :=
  andi (cmpi .sge (wrapped K) (val_main_call0_v6 (F := Ideal))) (cmpi .sle (wrapped K) (val_main_call0_v9 (F := Ideal)))

/-- The gather of the entries the words name. -/
def take (X : Vec Ideal S80000x12x18 .f32) (K : IVec S80000x12x12 32) : Vec Ideal S80000x12x12 .f32 :=
  select (Host.reduce IntOp.andi (inside K) (val_main_call0_c_3 (F := Ideal)) reducesTo_S80000x12x12x1_S80000x12x12_d3 h_S_)
    (Host.gather gather_S80000x12x18_S80000x12x12x1_S80000x12x12_n_2_01_01_2_3_111 X (wrapped K)) (val_main_call0_v14 (F := Ideal))

/-- A word that is a small number stays itself. -/
theorem wrapped_apply (K : IVec S80000x12x12 32) (r : Fin 80000) (i j : Fin 12) (z : Fin 1) (k : Fin 18)
    (h : K (ix3 r i j) = BitVec.ofNat 32 k.val) : wrapped K (ix4 r i j z) = BitVec.ofNat 32 k.val := by
  have e : idx_main_call0_v5 (ix4 r i j z) = ix3 r i j := by
    funext a
    have hz := z.isLt
    have hi := i.isLt
    have hj := j.isLt
    match a with
    | ⟨0, _⟩ => apply Fin.ext; show (((r.val * 12 + i.val) * 12 + j.val) * 1 + z.val) / 144 = r.val; omega
    | ⟨1, _⟩ => apply Fin.ext; show (((r.val * 12 + i.val) * 12 + j.val) * 1 + z.val) / 12 % 12 = i.val; omega
    | ⟨2, _⟩ => apply Fin.ext; show (((r.val * 12 + i.val) * 12 + j.val) * 1 + z.val) % 12 = j.val; omega
  unfold wrapped
  rw [shapeCast_apply _ shapeCasts_S80000x12x12_S80000x12x12x1 (ix4 r i j z) (ix3 r i j) (by
    rw [← e]; exact (Shape.rowMajor_val_three _).trans (by
      rw [Shape.rowMajor_val_four]; have hz := z.isLt; have hi := i.isLt; have hj := j.isLt
      show _ = (((r.val * 12 + i.val) * 12 + j.val) * 1 + z.val); rw [e]; show (r.val * 12 + i.val) * 12 + j.val = _; omega))]
  have hk := k.isLt
  show Scalar.select (IntOp.cmpi .slt (K (ix3 r i j)) 0#32) (IntOp.addi (K (ix3 r i j)) 18#32) (K (ix3 r i j)) = _
  rw [h]
  exact (by decide : ∀ k : Fin 18, Scalar.select (IntOp.cmpi .slt (BitVec.ofNat 32 k.val) 0#32)
    (IntOp.addi (BitVec.ofNat 32 k.val) 18#32) (BitVec.ofNat 32 k.val) = BitVec.ofNat 32 k.val) k

/-- The bounds check passes at a word that names an entry. -/
theorem inside_apply (K : IVec S80000x12x12 32) (r : Fin 80000) (i j : Fin 12) (k : Fin 18)
    (h : K (ix3 r i j) = BitVec.ofNat 32 k.val) :
    Host.reduce IntOp.andi (inside K) (val_main_call0_c_3 (F := Ideal)) reducesTo_S80000x12x12x1_S80000x12x12_d3 h_S_ (ix3 r i j) = 1#1 := by
  rw [Host.reduce_eq_foldl]
  refine IntOp.foldl_andi_one _ _ _ rfl fun n hn => ?_
  have hd := of_decide_eq_true (List.mem_filter.1 hn).2
  obtain ⟨z, rfl⟩ := (Shape.ReducesTo.fiber_r4_a3 reducesTo_S80000x12x12x1_S80000x12x12_d3 _ n).1 hd
  have e := wrapped_apply K r i j z k h
  show IntOp.andi (IntOp.cmpi .sge (wrapped K (ix4 r i j z)) 0#32) (IntOp.cmpi .sle (wrapped K (ix4 r i j z)) 17#32) = 1#1
  rw [e]
  exact (by decide : ∀ k : Fin 18, IntOp.andi (IntOp.cmpi .sge (BitVec.ofNat 32 k.val) 0#32)
    (IntOp.cmpi .sle (BitVec.ofNat 32 k.val) 17#32) = 1#1) k

/-- The gather reads the entry its word names. -/
theorem gather_apply (X : Vec Ideal S80000x12x18 .f32) (W : IVec S80000x12x12x1 32) (r : Fin 80000) (i j : Fin 12) (k : Fin 18)
    (h : W (ix4 r i j 0) = BitVec.ofNat 32 k.val) :
    Host.gather gather_S80000x12x18_S80000x12x12x1_S80000x12x12_n_2_01_01_2_3_111 X W (ix3 r i j) = X (ix3 r i k) := by
  refine congrArg X (funext fun a => Fin.ext ?_)
  match a with
  | ⟨0, _⟩ => show 0 + r.val + 0 = r.val; omega
  | ⟨1, _⟩ => show 0 + i.val + 0 = i.val; omega
  | ⟨2, _⟩ =>
    have e : (gather_S80000x12x18_S80000x12x12x1_S80000x12x12_n_2_01_01_2_3_111).siIdx (ix3 r i j) ⟨0, by decide⟩ = ix4 r i j 0 := by
      funext b
      match b with
      | ⟨0, _⟩ => rfl
      | ⟨1, _⟩ => rfl
      | ⟨2, _⟩ => rfl
      | ⟨3, _⟩ => rfl
    show min (W ((gather_S80000x12x18_S80000x12x12x1_S80000x12x12_n_2_01_01_2_3_111).siIdx (ix3 r i j) ⟨0, _⟩)).toInt.toNat 17 + 0 + 0 = k.val
    rw [e, h]
    exact (by decide : ∀ k : Fin 18, min (BitVec.ofNat 32 k.val).toInt.toNat 17 + 0 + 0 = k.val) k

/-- The checked gather reads the entry its word names. -/
theorem take_apply (X : Vec Ideal S80000x12x18 .f32) (K : IVec S80000x12x12 32) (r : Fin 80000) (i j : Fin 12) (k : Fin 18)
    (h : K (ix3 r i j) = BitVec.ofNat 32 k.val) : take X K (ix3 r i j) = X (ix3 r i k) := by
  unfold take
  rw [ValueIdx.select_apply, inside_apply K r i j k h, gather_apply X (wrapped K) r i j k (wrapped_apply K r i j 0 k h)]
  rfl

/-- Both gathers of the first interpolation are this one. -/
theorem take_lo (x0 : Vec Ideal S8x10000x216 .f32) (x2 : Vec Ideal S12x12 .f32) :
    val_main_v15 (F := Ideal) x0 x2 = take (val_main_v0 (F := Ideal) x0) (val_main_v14 (F := Ideal) x2) := rfl

/-- The gather of the following entry. -/
theorem take_hi (x0 : Vec Ideal S8x10000x216 .f32) (x2 : Vec Ideal S12x12 .f32) :
    val_main_v18 (F := Ideal) x0 x2 = take (val_main_v0 (F := Ideal) x0) (val_main_v17 (F := Ideal) x2) := rfl

end Cert.ReferenceIdeal.Deform
-- ==== Proof.RefInterp.lean ====
/- The reference's interpolated rows: every row of the input viewed as twelve rows of eighteen entries, interpolated at the
   positions the offsets give. -/
module

public import proofs.«01_k».proof.Proof.RefTake
public import proofs.«01_k».proof.Proof.Scalars
public import Idealize.ShloMosaic.Lib.Routing.OpsSet

@[expose] public section

set_option maxRecDepth 16384

noncomputable section

namespace Cert.ReferenceIdeal.Deform

open Idealize.ShloMosaic Idealize.ShloMosaic.TcCoe Cert.ReferenceIdeal Cert.ReferenceIdeal.Gen Cert.ReferenceIdeal.Read Cert.Deform

variable (x0 : Vec Ideal S8x10000x216 .f32) (o : Vec Ideal S12x12 .f32)

/-- The word of one. -/
theorem one_lit : Ideal.ofBits .f32 0x3F800000#32 = 1 := by
  simp [Ideal.ofBits, Ideal.ieee, -EReal.coe_mul]
  norm_num

/-- The word of zero. -/
theorem zero_lit : Ideal.ofBits .f32 0x00000000#32 = 0 := by
  simp [Ideal.ofBits, Ideal.ieee]

/-- The position of an entry of the interpolated rows. -/
theorem position (i j : Fin 12) : val_main_v9 (F := Ideal) o (ix2 i j) = ((pos (o (ix2 i j)) j.val : ℝ) : EReal) := by
  have e1 : val_main_v9 (F := Ideal) o (ix2 i j)
      = Ideal.tanh (o (ix2 i j)) * Ideal.ofBits .f32 1077936128#32
        + (FloatOps.sitofp (F := Ideal) .f32 (BitVec.ofNat 32 j.val) + Ideal.ofBits .f32 1077936128#32) := by
    unfold val_main_v9 val_main_v8 val_main_v7 val_main_v6 val_main_v5 val_main_v4 val_main_v3 val_main_v2 val_main_v1 val_main_cst val_main_cst_0
    pointwise
  rw [e1, three_lit, count_cast j.val (by omega), pos_ref]

/-- The number of the entry at or before the position, as a word. -/
theorem word (i j : Fin 12) : val_main_v11 (F := Ideal) o (ix2 i j) = BitVec.ofInt 32 (key (o (ix2 i j)) j.val) := by
  rw [val_main_v11_apply, val_main_v10_apply, position]
  exact key_word _ _ j.isLt

/-- The number of that entry as a float. -/
theorem entry (i j : Fin 12) : val_main_v12 (F := Ideal) o (ix2 i j) = (((key (o (ix2 i j)) j.val : ℤ) : ℝ) : EReal) := by
  rw [val_main_v12_apply, word]
  exact word_cast _ _ j.isLt

/-- The words of the first gather. -/
theorem words_lo (r : Fin 80000) (i j : Fin 12) :
    val_main_v14 (F := Ideal) o (ix3 r i j) = BitVec.ofInt 32 (key (o (ix2 i j)) j.val) := by
  have e1 : val_main_v14 (F := Ideal) o (ix3 r i j) = val_main_v11 (F := Ideal) o (ix2 i j) := by
    unfold val_main_v14 val_main_v13
    pointwise
  rw [e1, word]

/-- The words of the second gather. -/
theorem words_hi (r : Fin 80000) (i j : Fin 12) :
    val_main_v17 (F := Ideal) o (ix3 r i j) = BitVec.ofInt 32 (key (o (ix2 i j)) j.val + 1) := by
  rw [val_main_v17_apply, words_lo, BitVec.ofInt_add]
  rfl

/-- The weight of the entry before the position. -/
theorem weight_lo (r : Fin 80000) (i j : Fin 12) :
    val_main_v23 (F := Ideal) o (ix3 r i j) = ((1 - frac (o (ix2 i j)) j.val : ℝ) : EReal) := by
  have e1 : val_main_v23 (F := Ideal) o (ix3 r i j)
      = Ideal.ofBits .f32 0x3F800000#32 - val_main_v9 (F := Ideal) o (ix2 i j) + val_main_v12 (F := Ideal) o (ix2 i j) := by
    unfold val_main_v23 val_main_v22 val_main_v21 val_main_v20 val_main_v19 val_main_cst_1
    pointwise
  rw [e1, position, entry, one_lit]
  unfold frac
  rw [← EReal.coe_one, ← EReal.coe_sub, ← EReal.coe_add]
  congr 1
  ring

/-- The weight of the entry after the position. -/
theorem weight_hi (r : Fin 80000) (i j : Fin 12) :
    val_main_v27 (F := Ideal) o (ix3 r i j) = ((frac (o (ix2 i j)) j.val : ℝ) : EReal) := by
  have e1 : val_main_v27 (F := Ideal) o (ix3 r i j)
      = val_main_v9 (F := Ideal) o (ix2 i j) - val_main_v12 (F := Ideal) o (ix2 i j) := by
    unfold val_main_v27 val_main_v26 val_main_v25
    pointwise
  rw [e1, position, entry, ← EReal.coe_sub]
  rfl

/-- The input seen as rows of eighteen entries. -/
theorem rows (b : Fin 8) (n : Fin 10000) (r : Fin 80000) (hr : r.val = b.val * 10000 + n.val) (i : Fin 12) (k : Fin 18) :
    val_main_v0 (F := Ideal) x0 (ix3 r i k) = x0 (ix3 b n ⟨i.val * 18 + k.val, by omega⟩) := by
  rw [val_main_v0_apply]
  refine congrArg x0 (funext fun a => Fin.ext ?_)
  have hb := b.isLt
  have hn := n.isLt
  have hi := i.isLt
  have hk := k.isLt
  match a with
  | ⟨0, _⟩ => show ((r.val * 12 + i.val) * 18 + k.val) / 2160000 = b.val; omega
  | ⟨1, _⟩ => show ((r.val * 12 + i.val) * 18 + k.val) / 216 % 10000 = n.val; omega
  | ⟨2, _⟩ => show ((r.val * 12 + i.val) * 18 + k.val) % 216 = i.val * 18 + k.val; omega

/-- A row's interpolated entry, for a row of real numbers. -/
theorem interpolated (r : Fin 80000) (X : Fin 12 → Fin 18 → ℝ)
    (hX : ∀ i k, val_main_v0 (F := Ideal) x0 (ix3 r i k) = ((X i k : ℝ) : EReal)) (i j : Fin 12) :
    val_main_v29 (F := Ideal) x0 o (ix3 r i j) = ((Cert.Deform.interp (fun a b => o (ix2 a b)) X i j : ℝ) : EReal) := by
  have hk := key_bounds (o (ix2 i j)) j.val j.isLt
  obtain ⟨q, hq⟩ := Int.eq_ofNat_of_zero_le hk.1
  have elo : val_main_v15 (F := Ideal) x0 o (ix3 r i j) = ((X i ⟨q, by omega⟩ : ℝ) : EReal) := by
    rw [take_lo, take_apply _ _ r i j ⟨q, by omega⟩ (by rw [words_lo, hq]; rfl), hX]
  rw [val_main_v29_apply, val_main_v24_apply, val_main_v28_apply, elo, weight_lo, weight_hi]
  show (_ : EReal) * _ + _ * _ = _
  unfold Cert.Deform.interp
  by_cases hl : key (o (ix2 i j)) j.val = 17
  · rw [sum_wt _ _ j.isLt (X i) ⟨q, by omega⟩ ⟨q, by omega⟩ hq.symm (fun h => absurd hl (by omega)), frac_of_last _ _ j.isLt hl]
    simp
  · have ehi : val_main_v18 (F := Ideal) x0 o (ix3 r i j) = ((X i ⟨q + 1, by omega⟩ : ℝ) : EReal) := by
      rw [take_hi, take_apply _ _ r i j ⟨q + 1, by omega⟩ (by rw [words_hi, hq]; rfl), hX]
    rw [sum_wt _ _ j.isLt (X i) ⟨q, by omega⟩ ⟨q + 1, by omega⟩ hq.symm (fun _ => by rw [hq]; rfl), ehi]
    rw [← EReal.coe_mul, ← EReal.coe_mul, ← EReal.coe_add]

/-- The interpolated rows written into the input's rows from the fourth entry on, and cut out again. -/
theorem written (r : Fin 80000) (i j : Fin 12) :
    val_main_v32 (F := Ideal) x0 o (ix3 r i j) = val_main_v29 (F := Ideal) x0 o (ix3 r i j) := by
  rw [val_main_v32_apply]
  unfold val_main_v31
  have key : ∀ k : S80000x12x12.Idx, (scatter_S80000x12x18_S1_S80000x12x12_012_n_2_0).resultIdx? k (val_main_v30 (F := Ideal))
      = some (idx_main_v32 (ix3 r i j)) ↔ k = ix3 r i j := by
    intro k
    idx_vars k
    rw [Routing.resultIdx?_eq_some]
    constructor
    · intro h
      have h0 := h 0
      have h1 := h 1
      have h2 := h 2
      change (0 : Int) + ((k0.val : Nat) : Int) = ((r.val : Nat) : Int) at h0
      change (0 : Int) + ((k1.val : Nat) : Int) = ((i.val : Nat) : Int) at h1
      change (3 : Int) + ((k2.val : Nat) : Int) = ((3 + j.val : Nat) : Int) at h2
      rw [show k0 = r from Fin.ext (by omega), show k1 = i from Fin.ext (by omega), show k2 = j from Fin.ext (by omega)]
    · intro h a
      rw [h]
      match a with
      | ⟨0, _⟩ => show (0 : Int) + ((r.val : Nat) : Int) = ((r.val : Nat) : Int); omega
      | ⟨1, _⟩ => show (0 : Int) + ((i.val : Nat) : Int) = ((i.val : Nat) : Int); omega
      | ⟨2, _⟩ => show (3 : Int) + ((j.val : Nat) : Int) = ((3 + j.val : Nat) : Int); omega
  exact Routing.scatter_set_hit _ _ _ _ _ _ (fun k hk => by rw [(key k).1 hk]) _ ((key _).2 rfl)

end Cert.ReferenceIdeal.Deform
-- ==== Proof.RefValue.lean ====
/- What the reference's result holds at `(b, n, j)`: the gated mix of the two convolutions of the interpolated rows. -/
module

public import proofs.«01_k».proof.Proof.RefInterp

@[expose] public section

set_option maxRecDepth 16384

noncomputable section

namespace Cert.ReferenceIdeal.Deform

open Idealize.ShloMosaic Idealize.ShloMosaic.TcCoe Cert.ReferenceIdeal Cert.ReferenceIdeal.Gen Cert.ReferenceIdeal.Read Cert.Deform

section Rows

variable (x0 : Vec Ideal S8x10000x216 .f32) (o : Vec Ideal S12x12 .f32) (r : Fin 80000) (X : Fin 12 → Fin 18 → ℝ)
  (hX : ∀ i k, val_main_v0 (F := Ideal) x0 (ix3 r i k) = ((X i k : ℝ) : EReal))

include hX

/-- The interpolated row with one zero on each side. -/
theorem padded_row (i : Fin 12) (n : Fin 14) :
    val_main_v33 (F := Ideal) x0 o (ix3 r i n) = ((padded (Cert.Deform.interp (fun a b => o (ix2 a b)) X i) n.val : ℝ) : EReal) := by
  unfold val_main_v33 padded
  by_cases h : 1 ≤ n.val ∧ n.val ≤ 12
  · rw [dif_pos h, ← interpolated x0 o r X hX i ⟨n.val - 1, by omega⟩, ← written x0 o r i ⟨n.val - 1, by omega⟩]
    generalize val_main_v32 (F := Ideal) x0 o = y
    have hin : ∀ a : Fin 3, (![0, 0, 1] : Fin 3 → ℕ) a ≤ ((ix3 r i n : S80000x12x14.Idx) a).val
        ∧ (((ix3 r i n : S80000x12x14.Idx) a).val - (![0, 0, 1] : Fin 3 → ℕ) a) % ((![0, 0, 0] : Fin 3 → ℕ) a + 1) = 0
        ∧ (((ix3 r i n : S80000x12x14.Idx) a).val - (![0, 0, 1] : Fin 3 → ℕ) a) / ((![0, 0, 0] : Fin 3 → ℕ) a + 1) < S80000x12x12.size a := by
      have hr := r.isLt
      have hi := i.isLt
      intro a
      match a with
      | ⟨0, _⟩ => show 0 ≤ r.val ∧ (r.val - 0) % (0 + 1) = 0 ∧ (r.val - 0) / (0 + 1) < 80000; omega
      | ⟨1, _⟩ => show 0 ≤ i.val ∧ (i.val - 0) % (0 + 1) = 0 ∧ (i.val - 0) / (0 + 1) < 12; omega
      | ⟨2, _⟩ => show 1 ≤ n.val ∧ (n.val - 1) % (0 + 1) = 0 ∧ (n.val - 1) / (0 + 1) < 12; omega
    unfold pad
    refine (dif_pos hin).trans (congrArg y (funext fun a => Fin.ext ?_))
    match a with
    | ⟨0, _⟩ => show (r.val - 0) / (0 + 1) = r.val; omega
    | ⟨1, _⟩ => show (i.val - 0) / (0 + 1) = i.val; omega
    | ⟨2, _⟩ => show (n.val - 1) / (0 + 1) = n.val - 1; omega
  · rw [dif_neg h]
    generalize val_main_v32 (F := Ideal) x0 o = y
    unfold pad
    refine (dif_neg fun hin => h ?_).trans ?_
    · have h2 := hin (2 : Fin 3)
      change 1 ≤ n.val ∧ (n.val - 1) % (0 + 1) = 0 ∧ (n.val - 1) / (0 + 1) < 12 at h2
      omega
    · show FloatOps.sitofp (F := Ideal) .f32 (BitVec.ofNat 32 0) = _
      rw [count_cast 0 (by omega), Nat.cast_zero]

variable (x4 : Vec Ideal S1x12x3 .f32) (w : Fin 12 → Fin 3 → ℝ) (hw : ∀ i t, x4 (ix3 0 i t) = ((w i t : ℝ) : EReal))

include hw

/-- The convolution along time. -/
theorem conv_time (j : Fin 12) :
    val_main_v49 (F := Ideal) x0 o x4 (ix2 r j) = ((convT (Cert.Deform.interp (fun a b => o (ix2 a b)) X) w j : ℝ) : EReal) := by
  have w0 : ∀ i, val_main_v36 (F := Ideal) x4 (ix1 i) = ((w i 0 : ℝ) : EReal) := fun i => by
    rw [← hw]; unfold val_main_v36 val_main_v35; pointwise
  have w1 : ∀ i, val_main_v42 (F := Ideal) x4 (ix1 i) = ((w i 1 : ℝ) : EReal) := fun i => by
    rw [← hw]; unfold val_main_v42 val_main_v41; pointwise
  have w2 : ∀ i, val_main_v47 (F := Ideal) x4 (ix1 i) = ((w i 2 : ℝ) : EReal) := fun i => by
    rw [← hw]; unfold val_main_v47 val_main_v46; pointwise
  have d0 : ∀ i, val_main_v34 (F := Ideal) x0 o (ix3 r i j)
      = ((padded (Cert.Deform.interp (fun a b => o (ix2 a b)) X i) j.val : ℝ) : EReal) := fun i =>
    Eq.trans (by unfold val_main_v34; pointwise) (padded_row x0 o r X hX i ⟨j.val, by omega⟩)
  have d1 : ∀ i, val_main_v40 (F := Ideal) x0 o (ix3 r i j)
      = ((padded (Cert.Deform.interp (fun a b => o (ix2 a b)) X i) (j.val + 1) : ℝ) : EReal) := fun i =>
    Eq.trans (by unfold val_main_v40; pointwise) ((padded_row x0 o r X hX i ⟨1 + j.val, by omega⟩).trans (by rw [Nat.add_comm j.val]))
  have d2 : ∀ i, val_main_v45 (F := Ideal) x0 o (ix3 r i j)
      = ((padded (Cert.Deform.interp (fun a b => o (ix2 a b)) X i) (j.val + 2) : ℝ) : EReal) := fun i =>
    Eq.trans (by unfold val_main_v45; pointwise) ((padded_row x0 o r X hX i ⟨2 + j.val, by omega⟩).trans (by rw [Nat.add_comm j.val]))
  have e : val_main_v49 (F := Ideal) x0 o x4 (ix2 r j)
      = Ideal.ofBits .f32 0x00000000#32
        + ∑ i, val_main_v34 (F := Ideal) x0 o (ix3 r i j) * val_main_v36 (F := Ideal) x4 (ix1 i)
        + ∑ i, val_main_v40 (F := Ideal) x0 o (ix3 r i j) * val_main_v42 (F := Ideal) x4 (ix1 i)
        + ∑ i, val_main_v45 (F := Ideal) x0 o (ix3 r i j) * val_main_v47 (F := Ideal) x4 (ix1 i) := by
    unfold val_main_v49 val_main_v44 val_main_v39 val_main_v38 val_main_v37 val_main_v43 val_main_v48 val_main_cst_4
    pointwise
  rw [e]
  simp only [w0, w1, w2, d0, d1, d2, ← EReal.coe_mul, coe_sum]
  rw [zero_lit, zero_add, ← EReal.coe_add, ← EReal.coe_add]
  rfl

omit hw

variable (x6 : Vec Ideal S12x12x12 .f32) (u : Fin 12 → Fin 12 → Fin 12 → ℝ) (hu : ∀ q p i, x6 (ix3 q p i) = ((u q p i : ℝ) : EReal))

include hu

/-- The full contraction. -/
theorem conv_full (j : Fin 12) :
    val_main_v83 (F := Ideal) x0 o x6 (ix2 r j) = ((convN (Cert.Deform.interp (fun a b => o (ix2 a b)) X) u j : ℝ) : EReal) := by
  have d : ∀ i p, val_main_v82 (F := Ideal) x0 o (ix3 r p i) = ((Cert.Deform.interp (fun a b => o (ix2 a b)) X i p : ℝ) : EReal) := fun i p =>
    Eq.trans (b := val_main_v32 (F := Ideal) x0 o (ix3 r i p)) (by
      unfold val_main_v82
      rw [show val_main_v81 (F := Ideal) x0 o = val_main_v32 (F := Ideal) x0 o from rfl]
      pointwise) ((written x0 o r i p).trans (interpolated x0 o r X hX i p))
  have e : val_main_v83 (F := Ideal) x0 o x6 (ix2 r j)
      = ∑ p, ∑ i, val_main_v82 (F := Ideal) x0 o (ix3 r p i) * x6 (ix3 j p i) := by
    unfold val_main_v83
    pointwise
  rw [e]
  simp only [d, hu, ← EReal.coe_mul, coe_sum]
  rfl

end Rows

/-- The gate. -/
theorem gate (x1 : Vec Ideal S8x10000x12 .f32) (x8 : Vec Ideal S12x12 .f32) (x9 : Vec Ideal S10000x12 .f32) (b : Fin 8)
    (n : Fin 10000) (j : Fin 12) :
    val_main_v97 (F := Ideal) x1 x8 x9 (ix3 b n j) = Ideal.logistic (∑ q, x1 (ix3 b n q) * x8 (ix2 q j) + x9 (ix2 n j)) := by
  have e : val_main_v97 (F := Ideal) x1 x8 x9 (ix3 b n j)
      = Ideal.div (Ideal.ofBits .f32 0x3F800000#32)
        (Ideal.ofBits .f32 0x3F800000#32 + Ideal.exp (-(∑ q, x1 (ix3 b n q) * x8 (ix2 q j) + x9 (ix2 n j)))) := by
    unfold val_main_v97 val_main_v96 val_main_v95 val_main_v94 val_main_v93 val_main_v92 val_main_v91 val_main_v90 val_main_v89 val_main_v88
      val_main_cst_9 val_main_cst_10
    pointwise
  rw [e, one_lit]
  rfl

/-- The reference's result, entry by entry, for real inputs and real convolution weights. -/
theorem result (x0 : Vec Ideal S8x10000x216 .f32) (x1 : Vec Ideal S8x10000x12 .f32) (x2 x3 : Vec Ideal S12x12 .f32)
    (x4 : Vec Ideal S1x12x3 .f32) (x5 : Vec Ideal S1 .f32) (x6 : Vec Ideal S12x12x12 .f32) (x7 : Vec Ideal S12 .f32)
    (x8 : Vec Ideal S12x12 .f32) (x9 : Vec Ideal S10000x12 .f32) (b : Fin 8) (n : Fin 10000) (X : Fin 12 → Fin 18 → ℝ)
    (hX : ∀ i k, x0 (ix3 b n ⟨i.val * 18 + k.val, by omega⟩) = ((X i k : ℝ) : EReal)) (w : Fin 12 → Fin 3 → ℝ)
    (hw : ∀ i t, x4 (ix3 0 i t) = ((w i t : ℝ) : EReal)) (u : Fin 12 → Fin 12 → Fin 12 → ℝ)
    (hu : ∀ q p i, x6 (ix3 q p i) = ((u q p i : ℝ) : EReal)) (j : Fin 12) :
    val_main_v102 (F := Ideal) x0 x1 x2 x3 x4 x5 x6 x7 x8 x9 (ix3 b n j)
      = (((convN (Cert.Deform.interp (fun a b => x3 (ix2 a b)) X) u j : ℝ) : EReal) + x7 (ix1 j))
          * Ideal.logistic (∑ q, x1 (ix3 b n q) * x8 (ix2 q j) + x9 (ix2 n j))
        + (((convT (Cert.Deform.interp (fun a b => x2 (ix2 a b)) X) w j : ℝ) : EReal) + x5 (ix1 0))
          * (1 - Ideal.logistic (∑ q, x1 (ix3 b n q) * x8 (ix2 q j) + x9 (ix2 n j))) := by
  have hb := b.isLt
  have hn := n.isLt
  have hj := j.isLt
  obtain ⟨r, hr⟩ : ∃ r : Fin 80000, r.val = b.val * 10000 + n.val := ⟨⟨b.val * 10000 + n.val, by omega⟩, rfl⟩
  have hrows : ∀ i k, val_main_v0 (F := Ideal) x0 (ix3 r i k) = ((X i k : ℝ) : EReal) := fun i k => by
    rw [rows x0 b n r hr, hX]
  have i53 : idx_main_v53 (ix3 b n j) = ix2 r j := funext fun a => Fin.ext (by
    match a with
    | ⟨0, _⟩ => show ((b.val * 10000 + n.val) * 12 + j.val) / 12 = r.val; omega
    | ⟨1, _⟩ => show ((b.val * 10000 + n.val) * 12 + j.val) % 12 = j.val; omega)
  have i87 : idx_main_v87 (ix3 b n j) = ix2 r j := i53
  have hT : val_main_v53 (F := Ideal) x0 x2 x4 x5 (ix3 b n j)
      = ((convT (Cert.Deform.interp (fun a b => x2 (ix2 a b)) X) w j : ℝ) : EReal) + x5 (ix1 0) := by
    rw [val_main_v53_apply, i53, val_main_v52_apply, conv_time x0 x2 r X hrows x4 w hw]
    refine congrArg (((convT (Cert.Deform.interp (fun a b => x2 (ix2 a b)) X) w j : ℝ) : EReal) + ·) ?_
    unfold val_main_v51 val_main_v50
    pointwise
  have hN : val_main_v87 (F := Ideal) x0 x3 x6 x7 (ix3 b n j)
      = ((convN (Cert.Deform.interp (fun a b => x3 (ix2 a b)) X) u j : ℝ) : EReal) + x7 (ix1 j) := by
    rw [val_main_v87_apply, i87, val_main_v86_apply, conv_full x0 x3 r X hrows x6 u hu]
    refine congrArg (((convN (Cert.Deform.interp (fun a b => x3 (ix2 a b)) X) u j : ℝ) : EReal) + ·) ?_
    unfold val_main_v85 val_main_v84
    pointwise
  have hone : val_main_v99 (F := Ideal) (ix3 b n j) = 1 := by
    rw [← one_lit]
    unfold val_main_v99 val_main_cst_11
    pointwise
  rw [val_main_v102_apply, val_main_v98_apply, val_main_v101_apply, val_main_v100_apply, hT, hN, hone, gate]
  rfl

end Cert.ReferenceIdeal.Deform
-- ==== Proof.Equation.lean ====
/- The kernel's array and the reference's result hold the same values, for real inputs and real convolution parameters. -/
module

public import proofs.«01_k».proof.Proof.Array
public import proofs.«01_k».proof.Proof.RefValue
public import proofs.«01_k».proof.Proof.Finite

@[expose] public section

set_option maxRecDepth 16384

noncomputable section

namespace Cert.Equation

open Idealize.ShloMosaic Idealize.ShloMosaic.TcCoe Cert.KernelIdeal Cert.KernelIdeal.Gen Cert.KernelIdeal.Block Cert.Deform

variable (m : (ℓ : Loc nD τ sig) → Buf (Elt Ideal) ℓ) (c : Dev nD) (wT : Fin 12 → Fin 3 → ℝ) (wN : Fin 12 → Fin 12 → Fin 12 → ℝ)
  (b : Fin 8) (n : Fin 10000) (X : Fin 12 → Fin 18 → ℝ)
  (hX : ∀ i k, inp m c (ix3 b n ⟨i.val * 18 + k.val, by omega⟩) = ((X i k : ℝ) : EReal))

include hX

/-- An input row times a column of the combined matrix is a sum over the twelve rows and their eighteen entries. -/
theorem row_sum (cc : Fin 24) (f : Fin 12 → Fin 18 → ℝ)
    (hf : ∀ i k, combined (fun a b => offT m c (ix2 a b)) (fun a b => offN m c (ix2 a b)) wT wN ⟨i.val * 18 + k.val, by omega⟩ cc = f i k) :
    ∑ q, inp m c (ix3 b n q) * matrix m c wT wN (ix2 q cc) = ((∑ i : Fin 12, ∑ k : Fin 18, X i k * f i k : ℝ) : EReal) := by
  have hx : ∀ q : Fin 216, inp m c (ix3 b n q) = (((inp m c (ix3 b n q)).toReal : ℝ) : EReal) := fun q => by
    have e : q = ⟨(⟨q.val / 18, by omega⟩ : Fin 12).val * 18 + (⟨q.val % 18, by omega⟩ : Fin 18).val, by omega⟩ :=
      Fin.ext (by show q.val = q.val / 18 * 18 + q.val % 18; omega)
    rw [e, hX, EReal.toReal_coe]
  have e : ∑ q, inp m c (ix3 b n q) * matrix m c wT wN (ix2 q cc)
      = ∑ q : Fin 216, (((inp m c (ix3 b n q)).toReal
          * combined (fun a b => offT m c (ix2 a b)) (fun a b => offN m c (ix2 a b)) wT wN q cc : ℝ) : EReal) :=
    Finset.sum_congr rfl fun q _ => by
      rw [EReal.coe_mul, ← hx q]
      rfl
  rw [e, coe_sum, sum_flat]
  congr 1
  refine Finset.sum_congr rfl fun i _ => Finset.sum_congr rfl fun k _ => ?_
  rw [hX, EReal.toReal_coe, hf]

/-- The first twelve columns give the convolution along time. -/
theorem row_time (j : Fin 12) : ∑ q, inp m c (ix3 b n q) * matrix m c wT wN (ix2 q ⟨j.val, by omega⟩)
    = ((convT (Cert.Deform.interp (fun a b => offT m c (ix2 a b)) X) wT j : ℝ) : EReal) := by
  rw [row_sum m c wT wN b n X hX _ (fun i k => mapT (fun a b => offT m c (ix2 a b)) wT i k j)
    (fun i k => combined_t _ _ _ _ i k j _ _ rfl rfl), mapT_eq]

/-- The last twelve columns give the full contraction. -/
theorem row_full (j : Fin 12) : ∑ q, inp m c (ix3 b n q) * matrix m c wT wN (ix2 q ⟨12 + j.val, by omega⟩)
    = ((convN (Cert.Deform.interp (fun a b => offN m c (ix2 a b)) X) wN j : ℝ) : EReal) := by
  rw [row_sum m c wT wN b n X hX _ (fun i k => mapN (fun a b => offN m c (ix2 a b)) wN i k j)
    (fun i k => combined_n _ _ _ _ i k j _ _ rfl rfl), mapN_eq]

omit hX

/-- The kernel's array is the reference's result of the same arguments. -/
theorem array_eq (h0 : ∀ i, (((inp m c i).toReal : ℝ) : EReal) = inp m c i) (h4 : ∀ i, (((taps m c i).toReal : ℝ) : EReal) = taps m c i)
    (h5 : ∀ i, (((biasT m c i).toReal : ℝ) : EReal) = biasT m c i) (h6 : ∀ i, (((weights m c i).toReal : ℝ) : EReal) = weights m c i) :
    Value.G9 m c = Cert.ReferenceIdeal.Read.val_main_v102 (F := Ideal) (inp m c) (ctrl m c) (offT m c) (offN m c) (taps m c) (biasT m c)
      (weights m c) (biasN m c) (gateW m c) (gateB m c) := by
  funext y
  obtain ⟨b, n, j, rfl⟩ : ∃ (b : Fin 8) (n : Fin 10000) (j : Fin 12), y = ix3 b n j := ⟨y 0, y 1, y 2, by
    funext a
    match a with
    | ⟨0, _⟩ => rfl
    | ⟨1, _⟩ => rfl
    | ⟨2, _⟩ => rfl⟩
  have hT : ∀ i t, taps m c (ix3 0 i t) = (((taps m c (ix3 0 i t)).toReal : ℝ) : EReal) := fun i t => (h4 _).symm
  have hN : ∀ q p i, weights m c (ix3 q p i) = (((weights m c (ix3 q p i)).toReal : ℝ) : EReal) := fun q p i => (h6 _).symm
  have hX : ∀ (i : Fin 12) (k : Fin 18), inp m c (ix3 b n ⟨i.val * 18 + k.val, by omega⟩)
      = (((inp m c (ix3 b n ⟨i.val * 18 + k.val, by omega⟩)).toReal : ℝ) : EReal) := fun i k => (h0 _).symm
  obtain ⟨g, hg0, hg1, hg⟩ := logistic_real (∑ q, ctrl m c (ix3 b n q) * gateW m c (ix2 q j) + gateB m c (ix2 n j))
  rw [array_value m c _ _ hT hN, row_time m c _ _ b n _ hX, row_full m c _ _ b n _ hX]
  refine Eq.trans ?_ (Cert.ReferenceIdeal.Deform.result (inp m c) (ctrl m c) (offT m c) (offN m c) (taps m c) (biasT m c)
      (weights m c) (biasN m c) (gateW m c) (gateB m c) b n _ hX _ hT _ hN j).symm
  rw [hg, ← h5 (ix1 0), ← EReal.coe_add]
  exact gate_eq _ g _ hg0 hg1

end Cert.Equation

end
-- ==== Proof.lean ====
/- The certificate: the three programs run and leave their arguments unchanged, and the kernel's result is the reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs, leaves its arguments unchanged, and ends with every semaphore at zero. -/
theorem reference_frame : @quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the kernel and the reference end with the same result. -/
theorem values : @algebraic_KernelIdeal_ReferenceIdeal_pre_finite Cert.KernelIdeal.Gen.facts Cert.ReferenceIdeal.Gen.facts Cert.Finite.facts := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨r0, r4, r5, r6⟩ := @Cert.Finite.reals Cert.Finite.facts _ _ _ _ _ _ _ _ _ _ (hpre c)
  obtain ⟨a0, a1, a2, a3, a4, a5, a6, a7, a8, a9⟩ := hagree c
  refine (h c).1.trans ((Cert.ReferenceIdeal.Read.val_main_v102_eq (F := Ideal) (StableHlo.launchContents m' c)).trans ?_)
  refine Eq.trans ?_ (Cert.Equation.array_eq m c r0 r4 r5 r6).symm
  show Cert.ReferenceIdeal.Read.val_main_v102 (F := Ideal) (m' (c.tc.loc Cert.ReferenceIdeal.main_arg0)) (m' (c.tc.loc Cert.ReferenceIdeal.main_arg1))
    (m' (c.tc.loc Cert.ReferenceIdeal.main_arg2)) (m' (c.tc.loc Cert.ReferenceIdeal.main_arg3)) (m' (c.tc.loc Cert.ReferenceIdeal.main_arg4))
    (m' (c.tc.loc Cert.ReferenceIdeal.main_arg5)) (m' (c.tc.loc Cert.ReferenceIdeal.main_arg6)) (m' (c.tc.loc Cert.ReferenceIdeal.main_arg7))
    (m' (c.tc.loc Cert.ReferenceIdeal.main_arg8)) (m' (c.tc.loc Cert.ReferenceIdeal.main_arg9)) = _
  rw [a0, a1, a2, a3, a4, a5, a6, a7, a8, a9]

/-- Every claim. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, (trivial : preserves_Kernel_KernelIdeal), values⟩

end Cert.Proof

end
